-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S4096x256 : Shape := ⟨2, ![4096, 256]⟩
abbrev S3x8x2x512x256 : Shape := ⟨5, ![3, 8, 2, 512, 256]⟩
abbrev S7x4x128x256 : Shape := ⟨4, ![7, 4, 128, 256]⟩
abbrev S4x128x256 : Shape := ⟨3, ![4, 128, 256]⟩
abbrev S3x512x256 : Shape := ⟨3, ![3, 512, 256]⟩
abbrev S3x3 : Shape := ⟨2, ![3, 3]⟩
abbrev S7x4 : Shape := ⟨2, ![7, 4]⟩
abbrev S_ : Shape := ⟨0, ![]⟩
abbrev S1x1x1x512x256 : Shape := ⟨5, ![1, 1, 1, 512, 256]⟩
abbrev S1x512x256 : Shape := ⟨3, ![1, 512, 256]⟩
abbrev S1x1 : Shape := ⟨2, ![1, 1]⟩
abbrev S1x1x2x512x256 : Shape := ⟨5, ![1, 1, 2, 512, 256]⟩
abbrev S1x2x512x256 : Shape := ⟨4, ![1, 2, 512, 256]⟩
abbrev S1x2x2x512x256 : Shape := ⟨5, ![1, 2, 2, 512, 256]⟩
abbrev S2x2x512x256 : Shape := ⟨4, ![2, 2, 512, 256]⟩
abbrev S1x4x2x512x256 : Shape := ⟨5, ![1, 4, 2, 512, 256]⟩
abbrev S4x2x512x256 : Shape := ⟨4, ![4, 2, 512, 256]⟩
abbrev S512x512 : Shape := ⟨2, ![512, 512]⟩
abbrev S1x4x1x512x256 : Shape := ⟨5, ![1, 4, 1, 512, 256]⟩
abbrev S4x512x256 : Shape := ⟨3, ![4, 512, 256]⟩
abbrev S2048x256 : Shape := ⟨2, ![2048, 256]⟩
abbrev S512x2048 : Shape := ⟨2, ![512, 2048]⟩
abbrev S1x8x1x512x256 : Shape := ⟨5, ![1, 8, 1, 512, 256]⟩
abbrev S8x512x256 : Shape := ⟨3, ![8, 512, 256]⟩
abbrev S512x4096 : Shape := ⟨2, ![512, 4096]⟩
abbrev S1x128x256 : Shape := ⟨3, ![1, 128, 256]⟩
abbrev S128x256 : Shape := ⟨2, ![128, 256]⟩
abbrev S128x4096 : Shape := ⟨2, ![128, 4096]⟩
abbrev S1x1x128x256 : Shape := ⟨4, ![1, 1, 128, 256]⟩

abbrev nBuf : Space → Nat
  | .hbm => 8
  | .vmem => 12
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S4096x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S4096x256, .f32⟩
  | .local _ .vmem, ⟨8, _⟩ => ⟨S3x8x2x512x256, .bf16⟩
  | .local _ .vmem, ⟨9, _⟩ => ⟨S7x4x128x256, .bf16⟩
  | .local _ .vmem, ⟨10, _⟩ => ⟨S4x128x256, .bf16⟩
  | .local _ .vmem, ⟨11, _⟩ => ⟨S3x512x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_54 : BitVec 32 := 1#32
  let v58 : BitVec 32 := Scalar.xori v2 c1_i32_54
  let c1_i32_61 : BitVec 32 := 1#32
  let v59 : BitVec 32 := Scalar.muli v58 c1_i32_61
  let v60 : BitVec 32 := Scalar.addi c0_i32_62 v59
  v60.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_71 : BitVec 32 := 3#32
  let v69 : BitVec 32 := Scalar.xori v2 c3_i32_71
  let c1_i32_78 : BitVec 32 := 1#32
  let v70 : BitVec 32 := Scalar.muli v69 c1_i32_78
  let v71 : BitVec 32 := Scalar.addi c0_i32_79 v70
  v71.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_88 : BitVec 32 := 4#32
  let v80 : BitVec 32 := Scalar.xori v2 c4_i32_88
  let c1_i32_94 : BitVec 32 := 1#32
  let v81 : BitVec 32 := Scalar.muli v80 c1_i32_94
  let v82 : BitVec 32 := Scalar.addi c0_i32_95 v81
  v82.toNat
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_120 : BitVec 32 := 3#32
  let v99 : BitVec 32 := Scalar.xori v2 c3_i32_120
  let c1_i32_127 : BitVec 32 := 1#32
  let v100 : BitVec 32 := Scalar.muli v99 c1_i32_127
  let v101 : BitVec 32 := Scalar.addi c0_i32_128 v100
  v101.toNat
def k0_dev8 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_153 : BitVec 32 := 4#32
  let v118 : BitVec 32 := Scalar.xori v2 c4_i32_153
  let c1_i32_160 : BitVec 32 := 1#32
  let v119 : BitVec 32 := Scalar.muli v118 c1_i32_160
  let v120 : BitVec 32 := Scalar.addi c0_i32_161 v119
  v120.toNat
def k0_dev9 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_186 : BitVec 32 := 1#32
  let v137 : BitVec 32 := Scalar.xori v2 c1_i32_186
  let c1_i32_193 : BitVec 32 := 1#32
  let v138 : BitVec 32 := Scalar.muli v137 c1_i32_193
  let v139 : BitVec 32 := Scalar.addi c0_i32_194 v138
  v139.toNat
def k0_dev10 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_219 : BitVec 32 := 4#32
  let v156 : BitVec 32 := Scalar.xori v2 c4_i32_219
  let c1_i32_226 : BitVec 32 := 1#32
  let v157 : BitVec 32 := Scalar.muli v156 c1_i32_226
  let v158 : BitVec 32 := Scalar.addi c0_i32_227 v157
  v158.toNat
def k0_dev11 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_252 : BitVec 32 := 1#32
  let v175 : BitVec 32 := Scalar.xori v2 c1_i32_252
  let c1_i32_259 : BitVec 32 := 1#32
  let v176 : BitVec 32 := Scalar.muli v175 c1_i32_259
  let v177 : BitVec 32 := Scalar.addi c0_i32_260 v176
  v177.toNat
def k0_dev12 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_285 : BitVec 32 := 3#32
  let v194 : BitVec 32 := Scalar.xori v2 c3_i32_285
  let c1_i32_292 : BitVec 32 := 1#32
  let v195 : BitVec 32 := Scalar.muli v194 c1_i32_292
  let v196 : BitVec 32 := Scalar.addi c0_i32_293 v195
  v196.toNat
def k0_off1 (d0 : Dev nD) (c0_i32_453 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v316 : BitVec 32 := Scalar.muli v2 c512_i32
  let v317 : BitVec 32 := Scalar.addi v316 c0_i32_453
  let v318 : Index := Scalar.indexCast v317
  let c0_454 : Index := 0#32
  ![v318.toNat, 0]
def k0_dev13 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_458 : BitVec 32 := 1#32
  let v324 : BitVec 32 := Scalar.addi v2 c1_i32_458
  let c8_i32_459 : BitVec 32 := 8#32
  let v325 : BitVec 32 := Scalar.remsi v324 c8_i32_459
  let c1_i32_467 : BitVec 32 := 1#32
  let v326 : BitVec 32 := Scalar.muli v325 c1_i32_467
  let v327 : BitVec 32 := Scalar.addi c0_i32_468 v326
  v327.toNat
def k0_dev14 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_473 : BitVec 32 := 2#32
  let v336 : BitVec 32 := Scalar.addi v2 c2_i32_473
  let c8_i32_474 : BitVec 32 := 8#32
  let v337 : BitVec 32 := Scalar.remsi v336 c8_i32_474
  let c1_i32_482 : BitVec 32 := 1#32
  let v338 : BitVec 32 := Scalar.muli v337 c1_i32_482
  let v339 : BitVec 32 := Scalar.addi c0_i32_483 v338
  v339.toNat
def k0_dev15 (d0 : Dev nD) : Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_488 : BitVec 32 := 3#32
  let v348 : BitVec 32 := Scalar.addi v2 c3_i32_488
  let c8_i32_489 : BitVec 32 := 8#32
  let v349 : BitVec 32 := Scalar.remsi v348 c8_i32_489
  let c1_i32_497 : BitVec 32 := 1#32
  let v350 : BitVec 32 := Scalar.muli v349 c1_i32_497
  let v351 : BitVec 32 := Scalar.addi c0_i32_498 v350
  v351.toNat
def k0_dev16 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_503 : BitVec 32 := 4#32
  let v360 : BitVec 32 := Scalar.addi v2 c4_i32_503
  let c8_i32_504 : BitVec 32 := 8#32
  let v361 : BitVec 32 := Scalar.remsi v360 c8_i32_504
  let c1_i32_512 : BitVec 32 := 1#32
  let v362 : BitVec 32 := Scalar.muli v361 c1_i32_512
  let v363 : BitVec 32 := Scalar.addi c0_i32_513 v362
  v363.toNat
def k0_dev17 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v372 : BitVec 32 := Scalar.addi v2 c5_i32
  let c8_i32_518 : BitVec 32 := 8#32
  let v373 : BitVec 32 := Scalar.remsi v372 c8_i32_518
  let c1_i32_526 : BitVec 32 := 1#32
  let v374 : BitVec 32 := Scalar.muli v373 c1_i32_526
  let v375 : BitVec 32 := Scalar.addi c0_i32_527 v374
  v375.toNat
def k0_dev18 (d0 : Dev nD) : Nat :=
  let c0_i32_541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v384 : BitVec 32 := Scalar.addi v2 c6_i32
  let c8_i32_532 : BitVec 32 := 8#32
  let v385 : BitVec 32 := Scalar.remsi v384 c8_i32_532
  let c1_i32_540 : BitVec 32 := 1#32
  let v386 : BitVec 32 := Scalar.muli v385 c1_i32_540
  let v387 : BitVec 32 := Scalar.addi c0_i32_541 v386
  v387.toNat
def k0_dev19 (d0 : Dev nD) : Nat :=
  let c0_i32_555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v396 : BitVec 32 := Scalar.addi v2 c7_i32
  let c8_i32_546 : BitVec 32 := 8#32
  let v397 : BitVec 32 := Scalar.remsi v396 c8_i32_546
  let c1_i32_554 : BitVec 32 := 1#32
  let v398 : BitVec 32 := Scalar.muli v397 c1_i32_554
  let v399 : BitVec 32 := Scalar.addi c0_i32_555 v398
  v399.toNat
def k0_dev20 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_570 : BitVec 32 := 1#32
  let v423 : BitVec 32 := Scalar.addi v2 c1_i32_570
  let c8_i32_571 : BitVec 32 := 8#32
  let v424 : BitVec 32 := Scalar.remsi v423 c8_i32_571
  let c1_i32_579 : BitVec 32 := 1#32
  let v425 : BitVec 32 := Scalar.muli v424 c1_i32_579
  let v426 : BitVec 32 := Scalar.addi c0_i32_580 v425
  v426.toNat
def k0_dev21 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_585 : BitVec 32 := 2#32
  let v435 : BitVec 32 := Scalar.addi v2 c2_i32_585
  let c8_i32_586 : BitVec 32 := 8#32
  let v436 : BitVec 32 := Scalar.remsi v435 c8_i32_586
  let c1_i32_594 : BitVec 32 := 1#32
  let v437 : BitVec 32 := Scalar.muli v436 c1_i32_594
  let v438 : BitVec 32 := Scalar.addi c0_i32_595 v437
  v438.toNat
def k0_dev22 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_600 : BitVec 32 := 3#32
  let v447 : BitVec 32 := Scalar.addi v2 c3_i32_600
  let c8_i32_601 : BitVec 32 := 8#32
  let v448 : BitVec 32 := Scalar.remsi v447 c8_i32_601
  let c1_i32_609 : BitVec 32 := 1#32
  let v449 : BitVec 32 := Scalar.muli v448 c1_i32_609
  let v450 : BitVec 32 := Scalar.addi c0_i32_610 v449
  v450.toNat
def k0_dev23 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_615 : BitVec 32 := 4#32
  let v459 : BitVec 32 := Scalar.addi v2 c4_i32_615
  let c8_i32_616 : BitVec 32 := 8#32
  let v460 : BitVec 32 := Scalar.remsi v459 c8_i32_616
  let c1_i32_624 : BitVec 32 := 1#32
  let v461 : BitVec 32 := Scalar.muli v460 c1_i32_624
  let v462 : BitVec 32 := Scalar.addi c0_i32_625 v461
  v462.toNat
def k0_dev24 (d0 : Dev nD) : Nat :=
  let c0_i32_640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_630 : BitVec 32 := 5#32
  let v471 : BitVec 32 := Scalar.addi v2 c5_i32_630
  let c8_i32_631 : BitVec 32 := 8#32
  let v472 : BitVec 32 := Scalar.remsi v471 c8_i32_631
  let c1_i32_639 : BitVec 32 := 1#32
  let v473 : BitVec 32 := Scalar.muli v472 c1_i32_639
  let v474 : BitVec 32 := Scalar.addi c0_i32_640 v473
  v474.toNat
def k0_dev25 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_645 : BitVec 32 := 6#32
  let v483 : BitVec 32 := Scalar.addi v2 c6_i32_645
  let c8_i32_646 : BitVec 32 := 8#32
  let v484 : BitVec 32 := Scalar.remsi v483 c8_i32_646
  let c1_i32_654 : BitVec 32 := 1#32
  let v485 : BitVec 32 := Scalar.muli v484 c1_i32_654
  let v486 : BitVec 32 := Scalar.addi c0_i32_655 v485
  v486.toNat
def k0_dev26 (d0 : Dev nD) : Nat :=
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_660 : BitVec 32 := 7#32
  let v495 : BitVec 32 := Scalar.addi v2 c7_i32_660
  let c8_i32_661 : BitVec 32 := 8#32
  let v496 : BitVec 32 := Scalar.remsi v495 c8_i32_661
  let c1_i32_669 : BitVec 32 := 1#32
  let v497 : BitVec 32 := Scalar.muli v496 c1_i32_669
  let v498 : BitVec 32 := Scalar.addi c0_i32_670 v497
  v498.toNat
def k0_dev27 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_685 : BitVec 32 := 1#32
  let v522 : BitVec 32 := Scalar.addi v2 c1_i32_685
  let c8_i32_686 : BitVec 32 := 8#32
  let v523 : BitVec 32 := Scalar.remsi v522 c8_i32_686
  let c1_i32_694 : BitVec 32 := 1#32
  let v524 : BitVec 32 := Scalar.muli v523 c1_i32_694
  let v525 : BitVec 32 := Scalar.addi c0_i32_695 v524
  v525.toNat
def k0_dev28 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_700 : BitVec 32 := 2#32
  let v534 : BitVec 32 := Scalar.addi v2 c2_i32_700
  let c8_i32_701 : BitVec 32 := 8#32
  let v535 : BitVec 32 := Scalar.remsi v534 c8_i32_701
  let c1_i32_709 : BitVec 32 := 1#32
  let v536 : BitVec 32 := Scalar.muli v535 c1_i32_709
  let v537 : BitVec 32 := Scalar.addi c0_i32_710 v536
  v537.toNat
def k0_dev29 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_715 : BitVec 32 := 3#32
  let v546 : BitVec 32 := Scalar.addi v2 c3_i32_715
  let c8_i32_716 : BitVec 32 := 8#32
  let v547 : BitVec 32 := Scalar.remsi v546 c8_i32_716
  let c1_i32_724 : BitVec 32 := 1#32
  let v548 : BitVec 32 := Scalar.muli v547 c1_i32_724
  let v549 : BitVec 32 := Scalar.addi c0_i32_725 v548
  v549.toNat
def k0_dev30 (d0 : Dev nD) : Nat :=
  let c0_i32_740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_730 : BitVec 32 := 4#32
  let v558 : BitVec 32 := Scalar.addi v2 c4_i32_730
  let c8_i32_731 : BitVec 32 := 8#32
  let v559 : BitVec 32 := Scalar.remsi v558 c8_i32_731
  let c1_i32_739 : BitVec 32 := 1#32
  let v560 : BitVec 32 := Scalar.muli v559 c1_i32_739
  let v561 : BitVec 32 := Scalar.addi c0_i32_740 v560
  v561.toNat
def k0_dev31 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_745 : BitVec 32 := 5#32
  let v570 : BitVec 32 := Scalar.addi v2 c5_i32_745
  let c8_i32_746 : BitVec 32 := 8#32
  let v571 : BitVec 32 := Scalar.remsi v570 c8_i32_746
  let c1_i32_754 : BitVec 32 := 1#32
  let v572 : BitVec 32 := Scalar.muli v571 c1_i32_754
  let v573 : BitVec 32 := Scalar.addi c0_i32_755 v572
  v573.toNat
def k0_dev32 (d0 : Dev nD) : Nat :=
  let c0_i32_770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_760 : BitVec 32 := 6#32
  let v582 : BitVec 32 := Scalar.addi v2 c6_i32_760
  let c8_i32_761 : BitVec 32 := 8#32
  let v583 : BitVec 32 := Scalar.remsi v582 c8_i32_761
  let c1_i32_769 : BitVec 32 := 1#32
  let v584 : BitVec 32 := Scalar.muli v583 c1_i32_769
  let v585 : BitVec 32 := Scalar.addi c0_i32_770 v584
  v585.toNat
def k0_dev33 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_775 : BitVec 32 := 7#32
  let v594 : BitVec 32 := Scalar.addi v2 c7_i32_775
  let c8_i32_776 : BitVec 32 := 8#32
  let v595 : BitVec 32 := Scalar.remsi v594 c8_i32_776
  let c1_i32_784 : BitVec 32 := 1#32
  let v596 : BitVec 32 := Scalar.muli v595 c1_i32_784
  let v597 : BitVec 32 := Scalar.addi c0_i32_785 v596
  v597.toNat
def k0_dev34 (d0 : Dev nD) : Nat :=
  let c0_i32_810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_800 : BitVec 32 := 1#32
  let v621 : BitVec 32 := Scalar.addi v2 c1_i32_800
  let c8_i32_801 : BitVec 32 := 8#32
  let v622 : BitVec 32 := Scalar.remsi v621 c8_i32_801
  let c1_i32_809 : BitVec 32 := 1#32
  let v623 : BitVec 32 := Scalar.muli v622 c1_i32_809
  let v624 : BitVec 32 := Scalar.addi c0_i32_810 v623
  v624.toNat
def k0_dev35 (d0 : Dev nD) : Nat :=
  let c0_i32_825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_815 : BitVec 32 := 2#32
  let v633 : BitVec 32 := Scalar.addi v2 c2_i32_815
  let c8_i32_816 : BitVec 32 := 8#32
  let v634 : BitVec 32 := Scalar.remsi v633 c8_i32_816
  let c1_i32_824 : BitVec 32 := 1#32
  let v635 : BitVec 32 := Scalar.muli v634 c1_i32_824
  let v636 : BitVec 32 := Scalar.addi c0_i32_825 v635
  v636.toNat
def k0_dev36 (d0 : Dev nD) : Nat :=
  let c0_i32_840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_830 : BitVec 32 := 3#32
  let v645 : BitVec 32 := Scalar.addi v2 c3_i32_830
  let c8_i32_831 : BitVec 32 := 8#32
  let v646 : BitVec 32 := Scalar.remsi v645 c8_i32_831
  let c1_i32_839 : BitVec 32 := 1#32
  let v647 : BitVec 32 := Scalar.muli v646 c1_i32_839
  let v648 : BitVec 32 := Scalar.addi c0_i32_840 v647
  v648.toNat
def k0_dev37 (d0 : Dev nD) : Nat :=
  let c0_i32_855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_845 : BitVec 32 := 4#32
  let v657 : BitVec 32 := Scalar.addi v2 c4_i32_845
  let c8_i32_846 : BitVec 32 := 8#32
  let v658 : BitVec 32 := Scalar.remsi v657 c8_i32_846
  let c1_i32_854 : BitVec 32 := 1#32
  let v659 : BitVec 32 := Scalar.muli v658 c1_i32_854
  let v660 : BitVec 32 := Scalar.addi c0_i32_855 v659
  v660.toNat
def k0_dev38 (d0 : Dev nD) : Nat :=
  let c0_i32_870 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_860 : BitVec 32 := 5#32
  let v669 : BitVec 32 := Scalar.addi v2 c5_i32_860
  let c8_i32_861 : BitVec 32 := 8#32
  let v670 : BitVec 32 := Scalar.remsi v669 c8_i32_861
  let c1_i32_869 : BitVec 32 := 1#32
  let v671 : BitVec 32 := Scalar.muli v670 c1_i32_869
  let v672 : BitVec 32 := Scalar.addi c0_i32_870 v671
  v672.toNat
def k0_dev39 (d0 : Dev nD) : Nat :=
  let c0_i32_885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_875 : BitVec 32 := 6#32
  let v681 : BitVec 32 := Scalar.addi v2 c6_i32_875
  let c8_i32_876 : BitVec 32 := 8#32
  let v682 : BitVec 32 := Scalar.remsi v681 c8_i32_876
  let c1_i32_884 : BitVec 32 := 1#32
  let v683 : BitVec 32 := Scalar.muli v682 c1_i32_884
  let v684 : BitVec 32 := Scalar.addi c0_i32_885 v683
  v684.toNat
def k0_dev40 (d0 : Dev nD) : Nat :=
  let c0_i32_900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_890 : BitVec 32 := 7#32
  let v693 : BitVec 32 := Scalar.addi v2 c7_i32_890
  let c8_i32_891 : BitVec 32 := 8#32
  let v694 : BitVec 32 := Scalar.remsi v693 c8_i32_891
  let c1_i32_899 : BitVec 32 := 1#32
  let v695 : BitVec 32 := Scalar.muli v694 c1_i32_899
  let v696 : BitVec 32 := Scalar.addi c0_i32_900 v695
  v696.toNat
def k0_off2 (d0 : Dev nD) (c1_i32_918 : BitVec 32) (c0_i32_926 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v713 : BitVec 32 := Scalar.subi v2 c1_i32_918
  let c8_i32_919 : BitVec 32 := 8#32
  let v714 : BitVec 32 := Scalar.addi v713 c8_i32_919
  let c8_i32_920 : BitVec 32 := 8#32
  let v715 : BitVec 32 := Scalar.remsi v714 c8_i32_920
  let c512_i32_925 : BitVec 32 := 512#32
  let v719 : BitVec 32 := Scalar.muli v715 c512_i32_925
  let v720 : BitVec 32 := Scalar.addi v719 c0_i32_926
  let v721 : Index := Scalar.indexCast v720
  let c0_927 : Index := 0#32
  ![v721.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x256 : Shape := ⟨2, ![4096, 256]⟩
abbrev S256x4096 : Shape := ⟨2, ![256, 4096]⟩
abbrev S4096x4096 : Shape := ⟨2, ![4096, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x4096, .f32⟩
  | .hbm, ⟨2, _⟩ => ⟨S4096x256, .f32⟩
  | .hbm, ⟨3, _⟩ => ⟨S256x4096, .f32⟩
  | .hbm, ⟨4, _⟩ => ⟨S4096x256, .f32⟩
  | .hbm, ⟨5, _⟩ => ⟨S256x4096, .f32⟩
  | .hbm, ⟨6, _⟩ => ⟨S4096x256, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x256, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x256, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Model.lean ====
/-
The kernel's body, written again with loops.

The printed body is one straight line of about three hundred effects. Here the same line is written as loops over
the layers, the exchange phases, the row quarters and the distances of the gather; `body_eq` (Proof/BodyEq.lean) says the
two are the same program. The run (Proof/Body.lean) then goes by induction over each loop, so each kind of step is
proved once.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.Sem

variable {F : FTy → Type} [FloatOps F]

variable (F) in
/-- Programs of one core of this kernel. -/
abbrev Pg (α : Type) := Prog (TpuEff nD τ sig (Elt F) Λ₀ .tc) α

/-- Run `f` over a list, in order. -/
def seqL {α : Type} : List α → (α → Pg F PUnit) → Pg F PUnit
  | [], _ => pure ⟨⟩
  | x :: xs, f => f x >>= fun _ => seqL xs f

/-! ## The buffers and their semaphores -/

abbrev mX : Memref sig .tc .vmem S512x256 .f32 := Memref.whole cc0_stg0_0
abbrev mI0 : Memref sig .tc .vmem S256x512 .f32 := Memref.whole cc0_stg1_0
abbrev mO0 : Memref sig .tc .vmem S512x256 .f32 := Memref.whole cc0_stg2_0
abbrev mI1 : Memref sig .tc .vmem S256x512 .f32 := Memref.whole cc0_stg3_0
abbrev mO1 : Memref sig .tc .vmem S512x256 .f32 := Memref.whole cc0_stg4_0
abbrev mI2 : Memref sig .tc .vmem S256x512 .f32 := Memref.whole cc0_stg5_0
abbrev mO2 : Memref sig .tc .vmem S512x256 .f32 := Memref.whole cc0_stg6_0
/-- The result's staging buffer. -/
abbrev mOut : Memref sig .tc .vmem S4096x256 .f32 := Memref.whole cc0_stg7_0
/-- The weights: layer, slot, in/out, rows, columns. -/
abbrev mW : Memref sig .tc .vmem S3x8x2x512x256 .bf16 := Memref.whole cc0_scratch0
/-- Where the other devices' results land: distance less one, quarter, rows, columns. -/
abbrev mG : Memref sig .tc .vmem S7x4x128x256 .bf16 := Memref.whole cc0_scratch1
/-- The device's own result, in quarters. -/
abbrev mA : Memref sig .tc .vmem S4x128x256 .bf16 := Memref.whole cc0_scratch2
/-- The activations before each layer. -/
abbrev mB : Memref sig .tc .vmem S3x512x256 .bf16 := Memref.whole cc0_scratch3

theorem hW : (mW).IsWhole := Memref.isWhole_whole _
theorem hG : (mG).IsWhole := Memref.isWhole_whole _
theorem hA : (mA).IsWhole := Memref.isWhole_whole _
theorem hB : (mB).IsWhole := Memref.isWhole_whole _

theorem inb33 (L p : Fin 3) : ∀ a, (![L.val, p.val] : Fin 2 → Nat) a + S1x1.size a ≤ S3x3.size a := by
  revert L p; decide

theorem inb74 (a : Fin 7) (q : Fin 4) : ∀ i, (![a.val, q.val] : Fin 2 → Nat) i + S1x1.size i ≤ S7x4.size i := by
  revert a q; decide

def at33 (s : DmaSems sig S3x3) (L p : Fin 3) : DmaSem sig :=
  ((s.slice (Rect.unit (s := S3x3) ![L.val, p.val] S1x1.size (inb33 L p))).squeeze S_ squeezes_S1x1_S_).sem

def at74 (s : DmaSems sig S7x4) (a : Fin 7) (q : Fin 4) : DmaSem sig :=
  ((s.slice (Rect.unit (s := S7x4) ![a.val, q.val] S1x1.size (inb74 a q))).squeeze S_ squeezes_S1x1_S_).sem

/-- Counts what a weight exchange has sent, of layer `L` in phase `p`. -/
abbrev semSW (L p : Fin 3) : DmaSem sig := at33 cc0_scratch4 L p
/-- Counts what a weight exchange has received. -/
abbrev semRW (L p : Fin 3) : DmaSem sig := at33 cc0_scratch5 L p
/-- Counts what the gather has sent of quarter `q` at distance `a + 1`. -/
abbrev semSG (a : Fin 7) (q : Fin 4) : DmaSem sig := at74 cc0_scratch6 a q
/-- Counts what the gather has received. -/
abbrev semRG (a : Fin 7) (q : Fin 4) : DmaSem sig := at74 cc0_scratch7 a q
/-- The barrier. -/
abbrev semBar : Sem sig := (SemArray.scalar (sig.barrier 0 rfl) : Sems sig S_).sem

/-! ## The devices addressed -/

/-- The device a weight exchange goes to. -/
def devW (L p : Fin 3) (d : Dev nD) : Nat :=
  (![![k0_dev4, k0_dev7, k0_dev10], ![k0_dev5, k0_dev8, k0_dev11], ![k0_dev6, k0_dev9, k0_dev12]] L p) d

theorem devW_lt (L p : Fin 3) (d : Dev nD) : devW L p d < nD := by
  revert L p d; decide +kernel

/-- The device at distance `a + 1` after `d`. -/
def devG (a : Fin 7) (d : Dev nD) : Nat :=
  (![k0_dev13, k0_dev14, k0_dev15, k0_dev16, k0_dev17, k0_dev18, k0_dev19] a) d

theorem devG_lt (a : Fin 7) (d : Dev nD) : devG a d < nD := by
  revert a d; decide +kernel

abbrev toW (L p : Fin 3) (d : Dev nD) : Dev nD := ⟨devW L p d, devW_lt L p d⟩
abbrev toG (a : Fin 7) (d : Dev nD) : Dev nD := ⟨devG a d, devG_lt a d⟩

/-! ## The views -/

/-- `2 ^ p` slots of both weights, as the slice has them and as the copies see them. -/
abbrev shW1 (p : Fin 3) : Shape := ⟨5, ![1, 2 ^ p.val, 2, 512, 256]⟩
abbrev shW (p : Fin 3) : Shape := ⟨4, ![2 ^ p.val, 2, 512, 256]⟩

theorem shW_sq (p : Fin 3) : (shW1 p).Squeezes (shW p) := by revert p; decide

theorem inbW (L p : Fin 3) (o : Fin 5) (h : o.val + 2 ^ p.val ≤ 8) :
    ∀ a, (![L.val, o.val, 0, 0, 0] : Fin 5 → Nat) a + (shW1 p).size a ≤ S3x8x2x512x256.size a := by
  revert L p o; decide

theorem wordsW (L p : Fin 3) (o : Fin 5) (h : o.val + 2 ^ p.val ≤ 8) :
    (Rect.unit (s := S3x8x2x512x256) ![L.val, o.val, 0, 0, 0] (shW1 p).size (inbW L p o h)).WholeWords
      (EltTy.packing .bf16) := by
  revert L p o; decide

/-- `2 ^ p` slots of layer `L` from slot `o` on. -/
abbrev vW (L p : Fin 3) (o : Fin 5) (h : o.val + 2 ^ p.val ≤ 8) : Memref sig .tc .vmem (shW p) .bf16 :=
  (mW.slice (Rect.unit (s := S3x8x2x512x256) ![L.val, o.val, 0, 0, 0] (shW1 p).size (inbW L p o h))
    (fun _ => rfl)).squeeze (shW p) (shW_sq p)

theorem vW_exact (L p : Fin 3) (o : Fin 5) (h : o.val + 2 ^ p.val ≤ 8) : (vW L p o h).view.WordExact :=
  (hW.wordExact_slice rfl _ (wordsW L p o h)).reshape _ _

theorem src_le (p : Fin 3) : (0 : Fin 5).val + 2 ^ p.val ≤ 8 := by revert p; decide
/-- The first slot the phase `p` copies into. -/
def top (p : Fin 3) : Fin 5 := ![1, 2, 4] p
theorem dst_le (p : Fin 3) : (top p).val + 2 ^ p.val ≤ 8 := by revert p; decide

abbrev vSrc (L p : Fin 3) : Memref sig .tc .vmem (shW p) .bf16 := vW L p 0 (src_le p)
abbrev vDst (L p : Fin 3) : Memref sig .tc .vmem (shW p) .bf16 := vW L p (top p) (dst_le p)

theorem inbA (q : Fin 4) : ∀ a, (![q.val, 0, 0] : Fin 3 → Nat) a + S1x128x256.size a ≤ S4x128x256.size a := by
  revert q; decide
theorem inbG (a : Fin 7) (q : Fin 4) :
    ∀ i, (![a.val, q.val, 0, 0] : Fin 4 → Nat) i + S1x1x128x256.size i ≤ S7x4x128x256.size i := by
  revert a q; decide
theorem wordsA (q : Fin 4) : (Rect.unit (s := S4x128x256) ![q.val, 0, 0] S1x128x256.size (inbA q)).WholeWords
    (EltTy.packing .bf16) := by revert q; decide
theorem packedA (q : Fin 4) : (Rect.unit (s := S4x128x256) ![q.val, 0, 0] S1x128x256.size (inbA q)).PackedRows
    (EltTy.packing .bf16) := by revert q; decide
theorem wordsG (a : Fin 7) (q : Fin 4) :
    (Rect.unit (s := S7x4x128x256) ![a.val, q.val, 0, 0] S1x1x128x256.size (inbG a q)).WholeWords
      (EltTy.packing .bf16) := by revert a q; decide

/-- Quarter `q` of the device's own result. -/
abbrev vA (q : Fin 4) : Memref sig .tc .vmem S128x256 .bf16 :=
  (mA.slice (Rect.unit (s := S4x128x256) ![q.val, 0, 0] S1x128x256.size (inbA q)) (fun _ => rfl)).squeeze
    S128x256 squeezes_S1x128x256_S128x256
/-- The landing place of quarter `q` of the result of the device at distance `a + 1` before. -/
abbrev vG (a : Fin 7) (q : Fin 4) : Memref sig .tc .vmem S128x256 .bf16 :=
  (mG.slice (Rect.unit (s := S7x4x128x256) ![a.val, q.val, 0, 0] S1x1x128x256.size (inbG a q))
    (fun _ => rfl)).squeeze S128x256 squeezes_S1x1x128x256_S128x256

theorem vA_exact (q : Fin 4) : (vA q).view.WordExact := (hA.wordExact_slice rfl _ (wordsA q)).reshape _ _
theorem vG_exact (a : Fin 7) (q : Fin 4) : (vG a q).view.WordExact :=
  (hG.wordExact_slice rfl _ (wordsG a q)).reshape _ _

/-! ## The rectangles loaded and stored -/

theorem inbW1 (L : Fin 3) (s : Fin 8) (k : Fin 2) : ∀ a,
    (![L.val, s.val, k.val, 0, 0] : Fin 5 → Nat) a + S1x1x1x512x256.size a ≤ S3x8x2x512x256.size a := by
  revert L s k; decide
theorem packedW1 (L : Fin 3) (s : Fin 8) (k : Fin 2) :
    (Rect.unit (s := S3x8x2x512x256) ![L.val, s.val, k.val, 0, 0] S1x1x1x512x256.size (inbW1 L s k)).PackedRows
      (EltTy.packing .bf16) := by
  revert L s k; decide
/-- One slot of one weight. -/
abbrev rW1 (L : Fin 3) (s : Fin 8) (k : Fin 2) : Rect S3x8x2x512x256 :=
  Rect.unit ![L.val, s.val, k.val, 0, 0] S1x1x1x512x256.size (inbW1 L s k)

theorem inbW4 (k : Fin 2) : ∀ a,
    (![0, 4, k.val, 0, 0] : Fin 5 → Nat) a + S1x4x1x512x256.size a ≤ S3x8x2x512x256.size a := by
  revert k; decide
/-- The last four slots of one weight of the first layer. -/
abbrev rW4 (k : Fin 2) : Rect S3x8x2x512x256 := Rect.unit ![0, 4, k.val, 0, 0] S1x4x1x512x256.size (inbW4 k)

theorem inbW8 (L : Fin 3) (k : Fin 2) : ∀ a,
    (![L.val, 0, k.val, 0, 0] : Fin 5 → Nat) a + S1x8x1x512x256.size a ≤ S3x8x2x512x256.size a := by
  revert L k; decide
/-- All eight slots of one weight. -/
abbrev rW8 (L : Fin 3) (k : Fin 2) : Rect S3x8x2x512x256 :=
  Rect.unit ![L.val, 0, k.val, 0, 0] S1x8x1x512x256.size (inbW8 L k)

theorem inbB (L : Fin 3) : ∀ a, (![L.val, 0, 0] : Fin 3 → Nat) a + S1x512x256.size a ≤ S3x512x256.size a := by
  revert L; decide
theorem packedB (L : Fin 3) : (Rect.unit (s := S3x512x256) ![L.val, 0, 0] S1x512x256.size (inbB L)).PackedRows
    (EltTy.packing .bf16) := by revert L; decide
/-- The activations before layer `L`. -/
abbrev rB (L : Fin 3) : Rect S3x512x256 := Rect.unit ![L.val, 0, 0] S1x512x256.size (inbB L)

theorem inbBq (q : Fin 4) : ∀ a, (![2, 128 * q.val, 0] : Fin 3 → Nat) a + S1x128x256.size a ≤ S3x512x256.size a := by
  revert q; decide
/-- Quarter `q` of the activations before the last layer. -/
abbrev rBq (q : Fin 4) : Rect S3x512x256 := Rect.unit ![2, 128 * q.val, 0] S1x128x256.size (inbBq q)

abbrev rA (q : Fin 4) : Rect S4x128x256 := Rect.unit ![q.val, 0, 0] S1x128x256.size (inbA q)
abbrev rG (a : Fin 7) (q : Fin 4) : Rect S7x4x128x256 :=
  Rect.unit ![a.val, q.val, 0, 0] S1x1x128x256.size (inbG a q)

/-- The rows of the result that the device's own quarter `q` fills. -/
abbrev rOwn (d : Dev nD) (q : Fin 4) : Rect S4096x256 :=
  Rect.unit (k0_off1 d (BitVec.ofNat 32 (128 * q.val))) S128x256.size (k0_off1_inb d q)
/-- The rows of the result that quarter `q` of the device at distance `a + 1` before fills. -/
abbrev rGot (d : Dev nD) (a : Fin 7) (q : Fin 4) : Rect S4096x256 :=
  Rect.unit (k0_off2 d (BitVec.ofNat 32 (1 + a.val)) (BitVec.ofNat 32 (128 * q.val))) S128x256.size
    (k0_off2_inb d a q)

/-! ## The steps -/

/-- Tell the device addressed that this one has entered. -/
def sig1 (n : Dev nD) : Pg F PUnit := semSignalWord n semBar 1#32

/-- Convert a layer's own weights and keep them in slot 0. -/
def castIn (L : Fin 3) (m : Memref sig .tc .vmem S256x512 .f32) : Pg F PUnit := do
  let v ← Prog.lift (.load m (Rect.unit (s := S256x512) ![0, 0] S256x512.size inb_S256x512_S256x512_0_0).toLoadRect
    (View.loadsAt_vmem h_S256x512))
  let _ ← Prog.lift (.load mW (rW1 L 0 0).toLoadRect (View.loadsAt_vmem h_S1x1x1x512x256))
  Prog.lift (.store mW (rW1 L 0 0) (k0_pay1 v) Finset.univ
    (View.stores_vmem h_S1x1x1x512x256 (hW.storeExact_slice rfl _ (packedW1 L 0 0)) (fun _ => rfl)) (.inl rfl))

def castOut (L : Fin 3) (m : Memref sig .tc .vmem S512x256 .f32) : Pg F PUnit := do
  let v ← Prog.lift (.load m (Rect.unit (s := S512x256) ![0, 0] S512x256.size inb_S512x256_S512x256_0_0).toLoadRect
    (View.loadsAt_vmem h_S512x256))
  let _ ← Prog.lift (.load mW (rW1 L 0 1).toLoadRect (View.loadsAt_vmem h_S1x1x1x512x256))
  Prog.lift (.store mW (rW1 L 0 1) (k0_pay2 v) Finset.univ
    (View.stores_vmem h_S1x1x1x512x256 (hW.storeExact_slice rfl _ (packedW1 L 0 1)) (fun _ => rfl)) (.inl rfl))

/-- Convert the device's own rows of the input. -/
def castX : Pg F PUnit := do
  let v ← Prog.lift (.load mX (Rect.unit (s := S512x256) ![0, 0] S512x256.size inb_S512x256_S512x256_0_0).toLoadRect
    (View.loadsAt_vmem h_S512x256))
  let _ ← Prog.lift (.load mB (rB 0).toLoadRect (View.loadsAt_vmem h_S1x512x256))
  Prog.lift (.store mB (rB 0) (k0_pay7 v) Finset.univ
    (View.stores_vmem h_S1x512x256 (hB.storeExact_slice rfl _ (packedB 0)) (fun _ => rfl)) (.inl rfl))

/-- Start the exchange of layer `L` in phase `p`. -/
def sendW (d : Dev nD) (L p : Fin 3) : Pg F PUnit :=
  Prog.lift (.enqueueDma (vSrc L p) (.remote (Dev.tc (toW L p d)) (vDst L p) (.dma (semSW L p))) (.dma (semRW L p))
    (vW_exact L p 0 (src_le p)) (vW_exact L p (top p) (dst_le p)) ⟨⟨rfl, Or.inl rfl⟩, trivial⟩)

/-- Wait for what the exchange brings. -/
def recvW (L p : Fin 3) : Pg F PUnit :=
  Prog.lift (.waitDma2 (semRW L p) (vSrc L p) (vDst L p) (vW_exact L p 0 (src_le p)) (vW_exact L p (top p) (dst_le p)))

/-- Wait until the exchange has sent. -/
def sentW (L p : Fin 3) : Pg F PUnit :=
  Prog.lift (.waitDma2 (semSW L p) (vDst L p) (vSrc L p) (vW_exact L p (top p) (dst_le p)) (vW_exact L p 0 (src_le p)))

def loadB (L : Fin 3) : Pg F (Vec F S1x512x256 .bf16) :=
  Prog.lift (.load mB (rB L).toLoadRect (View.loadsAt_vmem h_S1x512x256))
def loadW1 (L : Fin 3) (s : Fin 8) (k : Fin 2) : Pg F (Vec F S1x1x1x512x256 .bf16) :=
  Prog.lift (.load mW (rW1 L s k).toLoadRect (View.loadsAt_vmem h_S1x1x1x512x256))
def loadW4 (k : Fin 2) : Pg F (Vec F S1x4x1x512x256 .bf16) :=
  Prog.lift (.load mW (rW4 k).toLoadRect (View.loadsAt_vmem h_S1x4x1x512x256))
def loadW8 (L : Fin 3) (k : Fin 2) : Pg F (Vec F S1x8x1x512x256 .bf16) :=
  Prog.lift (.load mW (rW8 L k).toLoadRect (View.loadsAt_vmem h_S1x8x1x512x256))
def storeB (L : Fin 3) (v : FVec F S1x512x256 .bf16) : Pg F PUnit := do
  let _ ← loadB L
  Prog.lift (.store mB (rB L) v Finset.univ
    (View.stores_vmem h_S1x512x256 (hB.storeExact_slice rfl _ (packedB L)) (fun _ => rfl)) (.inl rfl))

/-- The first layer: four slots one by one before the last exchange is in, then the last four at once. -/
def layer0 : Pg F PUnit := do
  let x ← loadB 0
  let a0 ← loadW1 0 0 0
  let b0 ← loadW1 0 0 1
  let a1 ← loadW1 0 1 0
  let b1 ← loadW1 0 1 1
  let a2 ← loadW1 0 2 0
  let b2 ← loadW1 0 2 1
  let a3 ← loadW1 0 3 0
  let b3 ← loadW1 0 3 1
  recvW 0 2
  let a4 ← loadW4 0
  let b4 ← loadW4 1
  storeB 1 (k0_pay11 (k0_pay8 x) (k0_pay10 (k0_pay8 x) (k0_pay9 x a0 b0 a1 b1) a2 b2 a3 b3) a4 b4)

/-- The second layer. -/
def layer1 : Pg F PUnit := do
  recvW 1 2
  let x ← loadB 1
  let a ← loadW8 1 0
  let b ← loadW8 1 1
  storeB 2 (k0_pay12 x a b)

/-- Start the gather of quarter `q` to the device at distance `a + 1`. -/
def sendG (d : Dev nD) (q : Fin 4) (a : Fin 7) : Pg F PUnit :=
  Prog.lift (.enqueueDma (vA q) (.remote (Dev.tc (toG a d)) (vG a q) (.dma (semSG a q))) (.dma (semRG a q))
    (vA_exact q) (vG_exact a q) ⟨⟨rfl, Or.inl rfl⟩, trivial⟩)

/-- Quarter `q` of the last layer: its rows go to the result and, converted, to every other device. -/
def quarter (d : Dev nD) (wi wo : Vec F S1x8x1x512x256 .bf16) (q : Fin 4) : Pg F PUnit := do
  let x ← Prog.lift (.load mB (rBq q).toLoadRect (View.loadsAt_vmem h_S1x128x256))
  let _ ← Prog.lift (.load mOut (rOwn d q).toLoadRect (View.loadsAt_vmem h_S128x256))
  Prog.lift (.store mOut (rOwn d q) (k0_pay15 wi wo x) Finset.univ (View.stores_vmem_bits_univ h_S128x256 rfl)
    (.inl rfl))
  let _ ← Prog.lift (.load mA (rA q).toLoadRect (View.loadsAt_vmem h_S1x128x256))
  Prog.lift (.store mA (rA q) (k0_pay16 wi wo x) Finset.univ
    (View.stores_vmem h_S1x128x256 (hA.storeExact_slice rfl _ (packedA q)) (fun _ => rfl)) (.inl rfl))
  seqL [0, 1, 2, 3, 4, 5, 6] (sendG d q)

/-- Take in quarter `q` of the device at distance `a + 1` before. -/
def takeG (d : Dev nD) (qa : Fin 4 × Fin 7) : Pg F PUnit := do
  Prog.lift (.waitDma2 (semRG qa.2 qa.1) (vA qa.1) (vG qa.2 qa.1) (vA_exact qa.1) (vG_exact qa.2 qa.1))
  let v ← Prog.lift (.load mG (rG qa.2 qa.1).toLoadRect (View.loadsAt_vmem h_S1x1x128x256))
  let _ ← Prog.lift (.load mOut (rGot d qa.2 qa.1).toLoadRect (View.loadsAt_vmem h_S128x256))
  Prog.lift (.store mOut (rGot d qa.2 qa.1) (k0_pay26 v) Finset.univ (View.stores_vmem_bits_univ h_S128x256 rfl)
    (.inl rfl))

/-- Wait until the gather has sent. -/
def sentG (qa : Fin 4 × Fin 7) : Pg F PUnit :=
  Prog.lift (.waitDma2 (semSG qa.2 qa.1) (vG qa.2 qa.1) (vA qa.1) (vG_exact qa.2 qa.1) (vA_exact qa.1))

/-- The 28 pairs of a quarter and a distance, in program order. -/
def pairs : List (Fin 4 × Fin 7) :=
  [(0, 0), (0, 1), (0, 2), (0, 3), (0, 4), (0, 5), (0, 6), (1, 0), (1, 1), (1, 2), (1, 3), (1, 4), (1, 5), (1, 6),
   (2, 0), (2, 1), (2, 2), (2, 3), (2, 4), (2, 5), (2, 6), (3, 0), (3, 1), (3, 2), (3, 3), (3, 4), (3, 5), (3, 6)]

/-- The nine pairs of a layer and a phase. -/
def nine : List (Fin 3 × Fin 3) := [(0, 0), (0, 1), (0, 2), (1, 0), (1, 1), (1, 2), (2, 0), (2, 1), (2, 2)]

/-- The whole body. -/
def model : Pg F PUnit := do
  let d ← Prog.lift .deviceId
  sig1 ⟨k0_dev1 d, k0_dev1_lt d⟩
  sig1 ⟨k0_dev2 d, k0_dev2_lt d⟩
  sig1 ⟨k0_dev3 d, k0_dev3_lt d⟩
  castIn 0 mI0
  castOut 0 mO0
  castIn 1 mI1
  castOut 1 mO1
  castIn 2 mI2
  castOut 2 mO2
  castX
  semWaitWord semBar 3#32
  seqL [0, 1, 2] fun L => sendW d L 0
  seqL [0, 1, 2] fun L => do
    recvW L 0
    sendW d L 1
  seqL [0, 1, 2] fun L => do
    recvW L 1
    sendW d L 2
  layer0
  layer1
  recvW 2 2
  let wi ← loadW8 2 0
  let wo ← loadW8 2 1
  seqL [0, 1, 2, 3] (quarter d wi wo)
  seqL pairs (takeG d)
  seqL nine fun x => sentW x.1 x.2
  seqL pairs sentG

end Cert.Gather
-- ==== Proof.Common.lean ====
/-
The devices' arithmetic and what every buffer holds.

The eight devices exchange weights along three bit masks (1, 3, 4), in a different order for each layer, so that after
phase `p` a device holds the weights of `2 ^ (p + 1)` devices. Slot `s` of layer `L` on device `c` is the weight of
device `src L c s`. Each buffer has ONE function giving its final contents; every part of it that a device ever holds,
or hands to another, agrees with that function.
-/
module

public import proofs.«01_k».proof.Proof.Model

@[expose] public section

noncomputable section

namespace Cert.Gather

open Cert.KernelIdeal Cert.KernelIdeal.Gen
open Idealize.ShloMosaic
open Idealize.ShloMosaic.TcCoe
open Idealize.SL Idealize.SL.Sem

/-! ## The devices -/

/-- Bitwise exclusive or of device numbers. -/
def xr (a b : Dev nD) : Dev nD := ⟨a.val ^^^ b.val, Nat.xor_lt_two_pow (n := 3) a.2 b.2⟩

/-- The three masks. -/
def mk : Fin 3 → Dev nD := ![1, 3, 4]
/-- The mask of layer `L` in phase `p`. -/
def mask (L p : Fin 3) : Dev nD := mk (L + p)
/-- The displacement of slot `s`: the masks of the phases its bits name. -/
def dsp (L : Fin 3) (s : Fin 8) : Dev nD :=
  xr (xr (if s.val.testBit 0 then mask L 0 else 0) (if s.val.testBit 1 then mask L 1 else 0))
    (if s.val.testBit 2 then mask L 2 else 0)
/-- Whose weight slot `s` of layer `L` on device `c` is. -/
def src (L : Fin 3) (c : Dev nD) (s : Fin 8) : Dev nD := xr c (dsp L s)

/-- Across mask `k`. -/
abbrev nb (k : Fin 3) (c : Dev nD) : Dev nD := xr c (mk k)
theorem nb_nb (k : Fin 3) (c : Dev nD) : nb k (nb k c) = c := by revert k c; decide

theorem dev1_eq (c : Dev nD) : (⟨k0_dev1 c, k0_dev1_lt c⟩ : Dev nD) = nb 0 c := by revert c; decide +kernel
theorem dev2_eq (c : Dev nD) : (⟨k0_dev2 c, k0_dev2_lt c⟩ : Dev nD) = nb 1 c := by revert c; decide +kernel
theorem dev3_eq (c : Dev nD) : (⟨k0_dev3 c, k0_dev3_lt c⟩ : Dev nD) = nb 2 c := by revert c; decide +kernel
theorem toW_eq (L p : Fin 3) (c : Dev nD) : toW L p c = nb (L + p) c := by revert L p c; decide +kernel

/-- The device at distance `a + 1` after. -/
def aft (a : Fin 7) (c : Dev nD) : Dev nD := ⟨(c.val + a.val + 1) % 8, Nat.mod_lt _ (by decide)⟩
/-- The device at distance `a + 1` before. -/
def bef (a : Fin 7) (c : Dev nD) : Dev nD := ⟨(c.val + 7 - a.val) % 8, Nat.mod_lt _ (by decide)⟩
theorem bef_aft (a : Fin 7) (c : Dev nD) : bef a (aft a c) = c := by revert a c; decide
theorem aft_bef (a : Fin 7) (c : Dev nD) : aft a (bef a c) = c := by revert a c; decide
theorem toG_eq (a : Fin 7) (c : Dev nD) : toG a c = aft a c := by revert a c; decide +kernel

theorem src_zero (L : Fin 3) (c : Dev nD) : src L c 0 = c := by revert L c; decide
theorem src_shift (L p : Fin 3) (c : Dev nD) (j k : Fin 8) (hj : j.val < 2 ^ p.val) (hk : k.val = j.val + 2 ^ p.val) :
    src L (nb (L + p) c) j = src L c k := by revert L p c j k; decide +kernel
theorem src_inj (L : Fin 3) (c : Dev nD) : Function.Injective (src L c) := by revert L c; decide
theorem src_bij (L : Fin 3) (c : Dev nD) : Function.Bijective (src L c) := by
  exact (Finite.injective_iff_bijective).1 (src_inj L c)

theorem off1_eq (c : Dev nD) (q : Fin 4) : k0_off1 c (BitVec.ofNat 32 (128 * q.val)) = ![512 * c.val + 128 * q.val, 0] := by
  revert c q; decide +kernel
theorem off2_eq (c : Dev nD) (a : Fin 7) (q : Fin 4) :
    k0_off2 c (BitVec.ofNat 32 (1 + a.val)) (BitVec.ofNat 32 (128 * q.val)) = ![512 * (bef a c).val + 128 * q.val, 0] := by
  revert c a q; decide +kernel

/-! ## The contents -/

variable {F : FTy → Type} [FloatOps F]
variable (m : (ℓ : Loc nD τ sig) → Buf (Elt F) ℓ)

/-- The device's own rows of the input. -/
def sX (c : Dev nD) : Vec F S512x256 .f32 :=
  (win0_0.blk (0 : Fin 1)).view.read (Elt F) (m ((c : Thread nD τ).loc main_arg0))
def sI0 (c : Dev nD) : Vec F S256x512 .f32 :=
  (win0_1.blk (0 : Fin 1)).view.read (Elt F) (m ((c : Thread nD τ).loc main_arg1))
def sO0 (c : Dev nD) : Vec F S512x256 .f32 :=
  (win0_2.blk (0 : Fin 1)).view.read (Elt F) (m ((c : Thread nD τ).loc main_arg2))
def sI1 (c : Dev nD) : Vec F S256x512 .f32 :=
  (win0_3.blk (0 : Fin 1)).view.read (Elt F) (m ((c : Thread nD τ).loc main_arg3))
def sO1 (c : Dev nD) : Vec F S512x256 .f32 :=
  (win0_4.blk (0 : Fin 1)).view.read (Elt F) (m ((c : Thread nD τ).loc main_arg4))
def sI2 (c : Dev nD) : Vec F S256x512 .f32 :=
  (win0_5.blk (0 : Fin 1)).view.read (Elt F) (m ((c : Thread nD τ).loc main_arg5))
def sO2 (c : Dev nD) : Vec F S512x256 .f32 :=
  (win0_6.blk (0 : Fin 1)).view.read (Elt F) (m ((c : Thread nD τ).loc main_arg6))

/-- The device's own columns of layer `L`'s first weight. -/
def sI : Fin 3 → Dev nD → Vec F S256x512 .f32
  | 0 => sI0 m
  | 1 => sI1 m
  | 2 => sI2 m
/-- The device's own rows of layer `L`'s second weight. -/
def sO : Fin 3 → Dev nD → Vec F S512x256 .f32
  | 0 => sO0 m
  | 1 => sO1 m
  | 2 => sO2 m

/-- The index of a slot's block within the block's own shape. -/
def ixW (i : S3x8x2x512x256.Idx) : S1x1x1x512x256.Idx := fun a => match a with
  | 0 => ⟨0, by decide⟩ | 1 => ⟨0, by decide⟩ | 2 => ⟨0, by decide⟩ | 3 => i 3 | 4 => i 4

/-- All the weights, converted, as device `c` ends up holding them. -/
def wfull (c : Dev nD) : S3x8x2x512x256.Idx → Elt F .bf16 := fun i =>
  if (i 2).val = 0 then k0_pay1 (sI m (i 0) (src (i 0) c (i 1))) (ixW i)
  else k0_pay2 (sO m (i 0) (src (i 0) c (i 1))) (ixW i)

/-- What a load of one slot gives. -/
def w1 (L : Fin 3) (s : Fin 8) (k : Fin 2) (c : Dev nD) : Vec F S1x1x1x512x256 .bf16 :=
  (mW).view.readAt (Elt F) (rW1 L s k).toLoadRect (wfull m c)
def w4 (k : Fin 2) (c : Dev nD) : Vec F S1x4x1x512x256 .bf16 :=
  (mW).view.readAt (Elt F) (rW4 k).toLoadRect (wfull m c)
def w8 (L : Fin 3) (k : Fin 2) (c : Dev nD) : Vec F S1x8x1x512x256 .bf16 :=
  (mW).view.readAt (Elt F) (rW8 L k).toLoadRect (wfull m c)

/-- The activations before each layer. -/
def xb0 (c : Dev nD) : FVec F S1x512x256 .bf16 := k0_pay7 (sX m c)
def xb1 (c : Dev nD) : FVec F S1x512x256 .bf16 :=
  k0_pay11 (k0_pay8 (xb0 m c))
    (k0_pay10 (k0_pay8 (xb0 m c)) (k0_pay9 (xb0 m c) (w1 m 0 0 0 c) (w1 m 0 0 1 c) (w1 m 0 1 0 c) (w1 m 0 1 1 c))
      (w1 m 0 2 0 c) (w1 m 0 2 1 c) (w1 m 0 3 0 c) (w1 m 0 3 1 c))
    (w4 m 0 c) (w4 m 1 c)
def xb2 (c : Dev nD) : FVec F S1x512x256 .bf16 := k0_pay12 (xb1 m c) (w8 m 1 0 c) (w8 m 1 1 c)
def xbAt : Fin 3 → Dev nD → FVec F S1x512x256 .bf16
  | 0 => xb0 m
  | 1 => xb1 m
  | 2 => xb2 m

def ixB (i : S3x512x256.Idx) : S1x512x256.Idx := fun a => match a with
  | 0 => ⟨0, by decide⟩ | 1 => i 1 | 2 => i 2
def xbfull (c : Dev nD) : S3x512x256.Idx → Elt F .bf16 := fun i => xbAt m (i 0) c (ixB i)

/-- Quarter `q` of the activations before the last layer. -/
def xq (q : Fin 4) (c : Dev nD) : Vec F S1x128x256 .bf16 :=
  (mB).view.readAt (Elt F) (rBq q).toLoadRect (xbfull m c)

/-- Quarter `q` of the device's own result. -/
def own (q : Fin 4) (c : Dev nD) : FVec F S128x256 .f32 := k0_pay15 (w8 m 2 0 c) (w8 m 2 1 c) (xq m q c)
/-- The same, converted for the gather. -/
def ownB (q : Fin 4) (c : Dev nD) : FVec F S1x128x256 .bf16 := k0_pay16 (w8 m 2 0 c) (w8 m 2 1 c) (xq m q c)

def ixA (i : S4x128x256.Idx) : S1x128x256.Idx := fun a => match a with
  | 0 => ⟨0, by decide⟩ | 1 => i 1 | 2 => i 2
def afull (c : Dev nD) : S4x128x256.Idx → Elt F .bf16 := fun i => ownB m (i 0) c (ixA i)

def ixG (i : S7x4x128x256.Idx) : S1x128x256.Idx := fun a => match a with
  | 0 => ⟨0, by decide⟩ | 1 => i 2 | 2 => i 3
/-- What the gather brings to device `c`. -/
def gfull (c : Dev nD) : S7x4x128x256.Idx → Elt F .bf16 := fun i => ownB m (i 1) (bef (i 0) c) (ixG i)

def ixR (j : S1x1x128x256.Idx) : S1x128x256.Idx := fun a => match a with
  | 0 => ⟨0, by decide⟩ | 1 => j 2 | 2 => j 3
/-- Quarter `q` of device `e`'s result, widened again by the device that received it. -/
def got (q : Fin 4) (e : Dev nD) : FVec F S128x256 .f32 := k0_pay26 fun j => ownB m q e (ixR j)

/-- Quarter `q` of device `e`'s rows, as device `c` has them in its result. -/
def outv (c e : Dev nD) (q : Fin 4) : FVec F S128x256 .f32 := if e = c then own m q c else got m q e

/-- The device, the quarter and the place within it of an element of the result. -/
def devOf (i : S4096x256.Idx) : Dev nD := ⟨(i 0).val / 512, Nat.div_lt_of_lt_mul (i 0).2⟩
def quOf (i : S4096x256.Idx) : Fin 4 := ⟨(i 0).val % 512 / 128, Nat.div_lt_of_lt_mul (Nat.mod_lt _ (by decide))⟩
def ixO (i : S4096x256.Idx) : S128x256.Idx := fun a => match a with
  | 0 => ⟨(i 0).val % 128, Nat.mod_lt _ (by decide)⟩ | 1 => i 1

/-- The whole result as device `c` holds it. -/
def outAt (c : Dev nD) : S4096x256.Idx → Elt F .f32 := fun i => outv m c (devOf i) (quOf i) (ixO i)

end Cert.Gather
-- ==== Proof.Regions.lean ====
/-
The parts of the buffers that the steps touch, as sets of indices, and what each step leaves there.
-/
module

public import proofs.«01_k».proof.Proof.Common

@[expose] public section

noncomputable section

namespace Cert.Gather

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ)

/-! ## The regions -/

/-- Slots `lo` up to `hi` of layer `L`. -/
def regW (L : Fin 3) (lo hi : Nat) : Finset S3x8x2x512x256.Idx :=
  Finset.univ.filter fun i => (i 0).val = L.val ∧ lo ≤ (i 1).val ∧ (i 1).val < hi
/-- One of the two weights of slot 0. -/
def regK (L : Fin 3) (k : Fin 2) : Finset S3x8x2x512x256.Idx :=
  Finset.univ.filter fun i => (i 0).val = L.val ∧ (i 1).val = 0 ∧ (i 2).val = k.val
/-- The activations before layer `L`. -/
def regB (L : Fin 3) : Finset S3x512x256.Idx := Finset.univ.filter fun i => (i 0).val = L.val
/-- Quarter `q` of the own result. -/
def regA (q : Fin 4) : Finset S4x128x256.Idx := Finset.univ.filter fun i => (i 0).val = q.val
/-- The landing place of quarter `q` at distance `a + 1`. -/
def regG (a : Fin 7) (q : Fin 4) : Finset S7x4x128x256.Idx :=
  Finset.univ.filter fun i => (i 0).val = a.val ∧ (i 1).val = q.val
/-- Quarter `q` of device `e`'s rows of the result. -/
def regO (e : Dev nD) (q : Fin 4) : Finset S4096x256.Idx :=
  Finset.univ.filter fun i => (i 0).val / 128 = 4 * e.val + q.val

theorem set_vW (L p : Fin 3) (o : Fin 5) (h : o.val + 2 ^ p.val ≤ 8) :
    (vW L p o h).view.set = regW L o.val (o.val + 2 ^ p.val) := by
  have e : (vW L p o h).view.set = (Rect.unit (s := S3x8x2x512x256) ![L.val, o.val, 0, 0, 0] (shW1 p).size (inbW L p o h)).set :=
    (View.set_reshape _ _).trans (View.set_slice_whole _ _)
  rw [e]
  ext i
  rw [Rect.mem_set_unit]
  have h2 := (i 2).2; have h3 := (i 3).2; have h4 := (i 4).2
  simp only [Fin.forall_fin_succ, Fin.forall_fin_zero, regW, Finset.mem_filter, Finset.mem_univ, true_and] at *
  simp at *
  omega

theorem set_rA (q : Fin 4) : (rA q).set = regA q := by
  ext i
  rw [Rect.mem_set_unit]
  have h1 := (i 1).2; have h2 := (i 2).2
  simp only [Fin.forall_fin_succ, Fin.forall_fin_zero, regA, Finset.mem_filter, Finset.mem_univ, true_and] at *
  simp at *
  omega

theorem set_vA (q : Fin 4) : (vA q).view.set = regA q :=
  ((View.set_reshape _ _).trans (View.set_slice_whole _ _)).trans (set_rA q)

theorem set_rG (a : Fin 7) (q : Fin 4) : (rG a q).set = regG a q := by
  ext i
  rw [Rect.mem_set_unit]
  have h2 := (i 2).2; have h3 := (i 3).2
  simp only [Fin.forall_fin_succ, Fin.forall_fin_zero, regG, Finset.mem_filter, Finset.mem_univ, true_and] at *
  simp at *
  omega

theorem set_vG (a : Fin 7) (q : Fin 4) : (vG a q).view.set = regG a q :=
  ((View.set_reshape _ _).trans (View.set_slice_whole _ _)).trans (set_rG a q)

theorem set_rW1 (L : Fin 3) (s : Fin 8) (k : Fin 2) : (rW1 L s k).set ⊆ regW L s.val (s.val + 1) := by
  intro i
  rw [Rect.mem_set_unit]
  simp only [Fin.forall_fin_succ, Fin.forall_fin_zero, regW, Finset.mem_filter, Finset.mem_univ, true_and] at *
  simp at *
  omega

theorem set_rW1_zero (L : Fin 3) (k : Fin 2) : (rW1 L 0 k).set = regK L k := by
  ext i
  rw [Rect.mem_set_unit]
  have h3 := (i 3).2; have h4 := (i 4).2
  simp only [Fin.forall_fin_succ, Fin.forall_fin_zero, regK, Finset.mem_filter, Finset.mem_univ, true_and] at *
  simp at *
  omega

theorem set_rW4 (k : Fin 2) : (rW4 k).set ⊆ regW 0 4 8 := by
  intro i
  rw [Rect.mem_set_unit]
  simp only [Fin.forall_fin_succ, Fin.forall_fin_zero, regW, Finset.mem_filter, Finset.mem_univ, true_and] at *
  simp at *
  omega

theorem set_rW8 (L : Fin 3) (k : Fin 2) : (rW8 L k).set ⊆ regW L 0 8 := by
  intro i
  rw [Rect.mem_set_unit]
  simp only [Fin.forall_fin_succ, Fin.forall_fin_zero, regW, Finset.mem_filter, Finset.mem_univ, true_and] at *
  simp at *
  omega

theorem set_rB (L : Fin 3) : (rB L).set = regB L := by
  ext i
  rw [Rect.mem_set_unit]
  have h1 := (i 1).2; have h2 := (i 2).2
  simp only [Fin.forall_fin_succ, Fin.forall_fin_zero, regB, Finset.mem_filter, Finset.mem_univ, true_and] at *
  simp at *
  omega

theorem set_rBq (q : Fin 4) : (rBq q).set ⊆ regB 2 := by
  intro i
  rw [Rect.mem_set_unit]
  simp only [Fin.forall_fin_succ, Fin.forall_fin_zero, regB, Finset.mem_filter, Finset.mem_univ, true_and] at *
  simp at *
  omega

theorem set_rOwn (c : Dev nD) (q : Fin 4) : (rOwn c q).set = regO c q := by
  ext i
  rw [Rect.mem_set_unit, off1_eq]
  have h1 := (i 1).2
  simp only [Fin.forall_fin_succ, Fin.forall_fin_zero, regO, Finset.mem_filter, Finset.mem_univ, true_and] at *
  simp at *
  omega

theorem set_rGot (c : Dev nD) (a : Fin 7) (q : Fin 4) : (rGot c a q).set = regO (bef a c) q := by
  ext i
  rw [Rect.mem_set_unit, off2_eq]
  have h1 := (i 1).2
  simp only [Fin.forall_fin_succ, Fin.forall_fin_zero, regO, Finset.mem_filter, Finset.mem_univ, true_and] at *
  simp at *
  omega

/-! ## What the landings hold -/

theorem wfull_congr {c c' : Dev nD} {i i' : S3x8x2x512x256.Idx} (h0 : i 0 = i' 0)
    (hs : src (i 0) c (i 1) = src (i' 0) c' (i' 1)) (h2 : i 2 = i' 2) (h3 : i 3 = i' 3) (h4 : i 4 = i' 4) :
    wfull m c i = wfull m c' i' := by
  have hx : ixW i = ixW i' := by
    funext a
    fin_cases a
    · rfl
    · rfl
    · rfl
    · exact h3
    · exact h4
  unfold wfull
  rw [hs, h0, h2, hx]

theorem top_val (p : Fin 3) : (top p).val = 2 ^ p.val := by revert p; decide

/-- What an exchange lands is what the receiving device should hold there. -/
theorem landW (L p : Fin 3) (n : Dev nD) (f : S3x8x2x512x256.Idx → Elt F .bf16) (i : S3x8x2x512x256.Idx)
    (hi : i ∈ (vDst L p).view.set) :
    (vDst L p).view.write (Elt F) f ((vSrc L p).view.read (Elt F) (wfull m n)) Finset.univ i
      = wfull m (nb (L + p) n) i := by
  obtain ⟨j, -, rfl⟩ := Finset.mem_map.1 hi
  refine (View.write_emb_of_mem _ _ (Finset.mem_univ j)).trans ?_
  show wfull m n ((vSrc L p).view.emb j) = _
  set j' : (shW1 p).Idx := Shape.reshapeEquiv (shW_sq p).numel_eq j with hj'
  have hd : ∀ a, ((vDst L p).view.emb j a).val = (![L.val, (top p).val, 0, 0, 0] : Fin 5 → Nat) a + 1 * (j' a).val := fun a => rfl
  have hs : ∀ a, ((vSrc L p).view.emb j a).val = (![L.val, 0, 0, 0, 0] : Fin 5 → Nat) a + 1 * (j' a).val := fun a => rfl
  have ht := top_val p
  have hl : (j' 1).val < 2 ^ p.val := (j' 1).2
  have hz : (j' 0).val < 1 := (j' 0).2
  have e0 : (vSrc L p).view.emb j 0 = L := Fin.ext (by rw [hs]; simp; omega)
  have e0' : (vDst L p).view.emb j 0 = L := Fin.ext (by rw [hd]; simp; omega)
  refine wfull_congr m (e0.trans e0'.symm) ?_ ?_ ?_ ?_
  · rw [e0, e0']
    have := src_shift L p (nb (L + p) n) ((vSrc L p).view.emb j 1) ((vDst L p).view.emb j 1)
      (by rw [hs]; simpa using hl) (by rw [hs, hd]; simp [ht]; omega)
    rwa [nb_nb] at this
  all_goals exact Fin.ext (by rw [hs, hd]; simp)

/-- The places of a quarter within the longer shapes. -/
def up3 (j : S128x256.Idx) : S1x128x256.Idx := fun a => match a with | 0 => ⟨0, by decide⟩ | 1 => j 0 | 2 => j 1
def up4 (j : S128x256.Idx) : S1x1x128x256.Idx := fun a => match a with
  | 0 => ⟨0, by decide⟩ | 1 => ⟨0, by decide⟩ | 2 => j 0 | 3 => j 1

theorem resh3 (h : S128x256.numel = S1x128x256.numel) (j : S128x256.Idx) : Shape.reshapeEquiv h j = up3 j :=
  Shape.reshapeEquiv_eq_of_rowMajor h (by
    rw [Shape.rowMajor_val_three, Shape.rowMajor_val_two]
    simp [up3])
theorem resh4 (h : S128x256.numel = S1x1x128x256.numel) (j : S128x256.Idx) : Shape.reshapeEquiv h j = up4 j :=
  Shape.reshapeEquiv_eq_of_rowMajor h (by
    rw [Shape.rowMajor_val_four, Shape.rowMajor_val_two]
    simp [up4])

theorem emb_vA (q : Fin 4) (j : S128x256.Idx) : (vA q).view.emb j = (rA q).emb (up3 j) := by
  show (rA q).emb (Shape.reshapeEquiv squeezes_S1x128x256_S128x256.numel_eq j) = _
  rw [resh3]
theorem emb_vG (a : Fin 7) (q : Fin 4) (j : S128x256.Idx) : (vG a q).view.emb j = (rG a q).emb (up4 j) := by
  show (rG a q).emb (Shape.reshapeEquiv squeezes_S1x1x128x256_S128x256.numel_eq j) = _
  rw [resh4]

theorem afull_emb (q : Fin 4) (c : Dev nD) (y : S1x128x256.Idx) : afull m c ((rA q).emb y) = ownB m q c y := by
  have hy : (y 0).val < 1 := (y 0).2
  have e0 : (rA q).emb y 0 = q := Fin.ext (by show q.val + 1 * (y 0).val = q.val; omega)
  have ex : ixA ((rA q).emb y) = y := by
    funext a
    apply Fin.ext
    fin_cases a
    · show 0 = (y 0).val; omega
    · show 0 + 1 * (y 1).val = (y 1).val; omega
    · show 0 + 1 * (y 2).val = (y 2).val; omega
  unfold afull
  rw [e0, ex]

theorem gfull_emb (a : Fin 7) (q : Fin 4) (c : Dev nD) (y : S1x1x128x256.Idx) :
    gfull m c ((rG a q).emb y) = ownB m q (bef a c) (ixR y) := by
  have hy : (y 0).val < 1 := (y 0).2
  have hy1 : (y 1).val < 1 := (y 1).2
  have e0 : (rG a q).emb y 0 = a := Fin.ext (by show a.val + 1 * (y 0).val = a.val; omega)
  have e1 : (rG a q).emb y 1 = q := Fin.ext (by show q.val + 1 * (y 1).val = q.val; omega)
  have ex : ixG ((rG a q).emb y) = ixR y := by
    funext b
    apply Fin.ext
    fin_cases b
    · rfl
    · show 0 + 1 * (y 2).val = (y 2).val; omega
    · show 0 + 1 * (y 3).val = (y 3).val; omega
  unfold gfull
  rw [e0, e1, ex]

/-- What the gather lands is what the receiving device should hold there. -/
theorem landG (a : Fin 7) (q : Fin 4) (n : Dev nD) (f : S7x4x128x256.Idx → Elt F .bf16) (i : S7x4x128x256.Idx)
    (hi : i ∈ (vG a q).view.set) :
    (vG a q).view.write (Elt F) f ((vA q).view.read (Elt F) (afull m n)) Finset.univ i = gfull m (aft a n) i := by
  obtain ⟨j, -, rfl⟩ := Finset.mem_map.1 hi
  refine (View.write_emb_of_mem _ _ (Finset.mem_univ j)).trans ?_
  show afull m n ((vA q).view.emb j) = _
  rw [emb_vA, emb_vG, afull_emb, gfull_emb, bef_aft]
  rfl

theorem emb_mem {s : Shape} (R : Rect s) (j : R.shape.Idx) : R.emb j ∈ R.set := by
  rw [← Rect.map_emb_univ]; exact Finset.mem_map_of_mem _ (Finset.mem_univ _)

/-- Storing a rectangle fills it and leaves the rest. -/
theorem store_fill (r : Ref sig .tc) (R : Rect r.ty.shape)
    (f : r.ty.Contents (Elt F)) (w : R.shape.Idx → Elt F r.ty.elt) (g : r.ty.shape.Idx → Elt F r.ty.elt)
    (h : ∀ j, w j = g (R.emb j)) (i : r.ty.shape.Idx) (hi : i ∈ R.set) :
    ((Memref.whole r).access R).write (Elt F) f w Finset.univ i = g i := by
  rw [← Rect.map_emb_univ] at hi
  obtain ⟨j, -, rfl⟩ := Finset.mem_map.1 hi
  refine (View.write_emb_of_mem _ _ (Finset.mem_univ j)).trans ?_
  exact h j

theorem fillK (L : Fin 3) (k : Fin 2) (c : Dev nD) (j : S1x1x1x512x256.Idx) :
    (if k = 0 then k0_pay1 (sI m L c) else k0_pay2 (sO m L c)) j = wfull m c ((rW1 L 0 k).emb j) := by
  have h0 : (j 0).val < 1 := (j 0).2
  have h1 : (j 1).val < 1 := (j 1).2
  have h2 : (j 2).val < 1 := (j 2).2
  have e0 : (rW1 L 0 k).emb j 0 = L := Fin.ext (by show L.val + 1 * (j 0).val = L.val; omega)
  have e1 : (rW1 L 0 k).emb j 1 = (0 : Fin 8) := Fin.ext (by show 0 + 1 * (j 1).val = 0; omega)
  have e2 : (rW1 L 0 k).emb j 2 = k := Fin.ext (by show k.val + 1 * (j 2).val = k.val; omega)
  have ex : ixW ((rW1 L 0 k).emb j) = j := by
    funext b
    apply Fin.ext
    fin_cases b
    · show 0 = (j 0).val; omega
    · show 0 = (j 1).val; omega
    · show 0 = (j 2).val; omega
    · show 0 + 1 * (j 3).val = (j 3).val; omega
    · show 0 + 1 * (j 4).val = (j 4).val; omega
  unfold wfull
  rw [e0, e1, e2, ex]
  have es := src_zero L c
  by_cases hk : k = 0
  · subst hk
    show _ = if (0 : Nat) = 0 then k0_pay1 (sI m L (src L c 0)) j else _
    rw [if_pos rfl, if_pos rfl, es]
  · have hv : ¬ (k.val = 0) := fun h => hk (Fin.ext h)
    rw [if_neg hk]
    show _ = if k.val = 0 then _ else k0_pay2 (sO m L (src L c 0)) j
    rw [if_neg hv, es]

theorem xbfull_emb (L : Fin 3) (c : Dev nD) (j : S1x512x256.Idx) : xbfull m c ((rB L).emb j) = xbAt m L c j := by
  have h0 : (j 0).val < 1 := (j 0).2
  have e0 : (rB L).emb j 0 = L := Fin.ext (by show L.val + 1 * (j 0).val = L.val; omega)
  have ex : ixB ((rB L).emb j) = j := by
    funext b
    apply Fin.ext
    fin_cases b
    · show 0 = (j 0).val; omega
    · show 0 + 1 * (j 1).val = (j 1).val; omega
    · show 0 + 1 * (j 2).val = (j 2).val; omega
  unfold xbfull
  rw [e0, ex]

theorem outAt_reg (c e : Dev nD) (q : Fin 4) (i : S4096x256.Idx) (hi : i ∈ regO e q) :
    devOf i = e ∧ quOf i = q := by
  have h := (Finset.mem_filter.1 hi).2
  have hq := q.2
  constructor
  · apply Fin.ext; show (i 0).val / 512 = e.val; omega
  · apply Fin.ext; show (i 0).val % 512 / 128 = q.val; omega

theorem fillOwn (c : Dev nD) (q : Fin 4) (j : S128x256.Idx) : own m q c j = outAt m c ((rOwn c q).emb j) := by
  obtain ⟨h1, h2⟩ := outAt_reg c c q ((rOwn c q).emb j) (by rw [← set_rOwn]; exact emb_mem _ _)
  have ex : ixO ((rOwn c q).emb j) = j := by
    have h0 : (j 0).val < 128 := (j 0).2
    have ho := off1_eq c q
    funext b
    apply Fin.ext
    fin_cases b
    · show (k0_off1 c (BitVec.ofNat 32 (128 * q.val)) 0 + 1 * (j 0).val) % 128 = (j 0).val
      rw [ho]; show (512 * c.val + 128 * q.val + 1 * (j 0).val) % 128 = (j 0).val; omega
    · show k0_off1 c (BitVec.ofNat 32 (128 * q.val)) 1 + 1 * (j 1).val = (j 1).val
      rw [ho]; show 0 + 1 * (j 1).val = (j 1).val; omega
  unfold outAt outv
  rw [h1, h2, ex, if_pos rfl]

theorem bef_ne (a : Fin 7) (c : Dev nD) : bef a c ≠ c := by revert a c; decide

theorem fillGot (c : Dev nD) (a : Fin 7) (q : Fin 4) (j : S128x256.Idx) :
    got m q (bef a c) j = outAt m c ((rGot c a q).emb j) := by
  obtain ⟨h1, h2⟩ := outAt_reg c (bef a c) q ((rGot c a q).emb j) (by rw [← set_rGot]; exact emb_mem _ _)
  have ex : ixO ((rGot c a q).emb j) = j := by
    have h0 : (j 0).val < 128 := (j 0).2
    have ho := off2_eq c a q
    funext b
    apply Fin.ext
    fin_cases b
    · show (k0_off2 c (BitVec.ofNat 32 (1 + a.val)) (BitVec.ofNat 32 (128 * q.val)) 0 + 1 * (j 0).val) % 128 = (j 0).val
      rw [ho]; show (512 * (bef a c).val + 128 * q.val + 1 * (j 0).val) % 128 = (j 0).val; omega
    · show k0_off2 c (BitVec.ofNat 32 (1 + a.val)) (BitVec.ofNat 32 (128 * q.val)) 1 + 1 * (j 1).val = (j 1).val
      rw [ho]; show 0 + 1 * (j 1).val = (j 1).val; omega
  unfold outAt outv
  rw [h1, h2, ex, if_neg (bef_ne a c)]

end Cert.Gather
-- ==== Proof.Protocol.lean ====
/-
The protocol between the devices.

Cells (semaphores) of one device `c`, one round each:

* the barrier: three units, unit `k` from the device across mask `k`. It hands `c` the landing places for weights on
  that device (one phase of each layer).
* a receive cell per layer and phase of the weight exchanges, credited by the device across that phase's mask. It hands
  `c` the slots `2^p … 2^(p+1)-1` holding the weights they should hold. In layer 0 it hands, beside them, rights to write
  into other devices' gather buffers: these rights start at the buffers' owners and travel with the exchanges, bit by
  bit of the displacement, to the devices that will write there.
* a send cell per layer and phase: it gives back the share of the slots that the copy read.
* a receive cell per quarter and distance of the gather: it hands `c` that quarter of the result of the device at that
  distance before.
* a send cell per quarter and distance: it gives back the share of the quarter that the copy read.
-/
module

public import proofs.«01_k».proof.Proof.Regions
public import Idealize.ShloMosaic.Lib.Pipeline.BigSepL

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI Idealize.SL.RA
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev WC := Fin 3 × Fin 3
abbrev GC := Fin 4 × Fin 7
/-- The cells that count copies: received and sent weights, received and sent quarters. -/
abbrev DCell := (WC ⊕ WC) ⊕ (GC ⊕ GC)
abbrev Cell := Unit ⊕ DCell
instance : DecidableEq DCell := inferInstance
instance : DecidableEq Cell := inferInstance
instance : DecidableEq (Dev nD × Cell) := instDecidableEqProd
abbrev kBar : Cell := .inl ()
abbrev kRW (x : WC) : Cell := .inr (.inl (.inl x))
abbrev kSW (x : WC) : Cell := .inr (.inl (.inr x))
abbrev kRG (x : GC) : Cell := .inr (.inr (.inl x))
abbrev kSG (x : GC) : Cell := .inr (.inr (.inr x))

@[reducible] def osem : DCell → SemLoc sig
  | .inl (.inl x) => .dma (semRW x.1 x.2)
  | .inl (.inr x) => .dma (semSW x.1 x.2)
  | .inr (.inl x) => .dma (semRG x.2 x.1)
  | .inr (.inr x) => .dma (semSG x.2 x.1)
@[reducible] def csem : Cell → SemLoc sig
  | .inl _ => .reg semBar
  | .inr k => osem k

theorem osem_inj : Function.Injective osem := by decide +kernel
theorem osem_ne_bar (k : DCell) : osem k ≠ .reg semBar := by revert k; decide +kernel
theorem csem_inj : Function.Injective csem := by
  rintro (⟨⟩ | k) (⟨⟩ | k') h
  · rfl
  · exact absurd h.symm (osem_ne_bar k')
  · exact absurd h (osem_ne_bar k)
  · exact congrArg _ (osem_inj h)

/-- The cell of a device. -/
abbrev kcell (ck : Dev nD × Cell) : GSem nD τ sig := ((ck.1 : Thread nD τ), csem ck.2)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

open Classical in
/-- Which cell a semaphore is, if it is one of the protocol's. -/
def cellOfSem (s : SemLoc sig) : Option Cell := if h : ∃ k, csem k = s then some h.choose else none
theorem cellOfSem_csem (k : Cell) : cellOfSem (csem k) = some k := by
  have h : ∃ k', csem k' = csem k := ⟨k, rfl⟩
  unfold cellOfSem
  rw [dif_pos h]
  exact congrArg some (csem_inj h.choose_spec)
theorem cellOfSem_none {s : SemLoc sig} (h : ∀ k, csem k ≠ s) : cellOfSem s = none := by
  unfold cellOfSem
  rw [dif_neg (fun ⟨k, hk⟩ => h k hk)]

/-! ## The permissions handed over -/

/-- The weights' buffer on `c`, the elements `S`, at share `q`. -/
def pW (c : Dev nD) (S : Finset S3x8x2x512x256.Idx) (q : PosShare TreeShare) (f : S3x8x2x512x256.Idx → Elt F .bf16) : sProp 𝕄 :=
  ((c : Thread nD τ).loc cc0_scratch0) ↦[S]{q} f
def pG (c : Dev nD) (S : Finset S7x4x128x256.Idx) (q : PosShare TreeShare) (f : S7x4x128x256.Idx → Elt F .bf16) : sProp 𝕄 :=
  ((c : Thread nD τ).loc cc0_scratch1) ↦[S]{q} f
def pA (c : Dev nD) (S : Finset S4x128x256.Idx) (q : PosShare TreeShare) (f : S4x128x256.Idx → Elt F .bf16) : sProp 𝕄 :=
  ((c : Thread nD τ).loc cc0_scratch2) ↦[S]{q} f
def pB (c : Dev nD) (S : Finset S3x512x256.Idx) (q : PosShare TreeShare) (f : S3x512x256.Idx → Elt F .bf16) : sProp 𝕄 :=
  ((c : Thread nD τ).loc cc0_scratch3) ↦[S]{q} f
def pO (c : Dev nD) (S : Finset S4096x256.Idx) (q : PosShare TreeShare) (f : S4096x256.Idx → Elt F .f32) : sProp 𝕄 :=
  ((c : Thread nD τ).loc cc0_stg7_0) ↦[S]{q} f

instance pW_storable (c S q f) : BI.Storable (upEmb : UEmb _ 𝕄) (pW (F := F) c S q f) := by unfold pW; infer_instance
instance pG_storable (c S q f) : BI.Storable (upEmb : UEmb _ 𝕄) (pG (F := F) c S q f) := by unfold pG; infer_instance
instance pA_storable (c S q f) : BI.Storable (upEmb : UEmb _ 𝕄) (pA (F := F) c S q f) := by unfold pA; infer_instance

/-- What is left of the full share after `n` halvings, and the half given away then. -/
def rem : ℕ → PosShare TreeShare
  | 0 => fullShare
  | n + 1 => (rem n).right
def shn (n : ℕ) : PosShare TreeShare := (rem n).left
theorem rem_split (n : ℕ) : rem n ∈ shn n ·? rem (n + 1) := PosShare.mem_left_op_right _

/-- The slots of layer `L` that phase `p` fills, free to be written on device `e`. -/
def freeW (L p : Fin 3) (e : Dev nD) : sProp 𝕄 := iprop(∃ f, pW e (regW L (2 ^ p.val) (2 ^ p.val + 2 ^ p.val)) fullShare f)
/-- One landing place of the gather, free to be written on device `e`. -/
def freeG (e : Dev nD) (x : GC) : sProp 𝕄 := iprop(∃ f, pG e (regG x.2 x.1) fullShare f)

instance freeW_storable (L p e) : BI.Storable (upEmb : UEmb _ 𝕄) (freeW (F := F) L p e) := by unfold freeW; infer_instance
instance freeG_storable (e x) : BI.Storable (upEmb : UEmb _ 𝕄) (freeG (F := F) e x) := by unfold freeG; infer_instance

/-- The rights to write into `e`'s gather buffer that device `r` needs. -/
def tk (e r : Dev nD) : sProp 𝕄 := bigSep Finset.univ fun x : GC => if bef x.2 e = r then freeG e x else iprop(emp)

/-- After `n` phases device `d` holds, for each displacement `s`, the rights that started at `own n s d` … -/
def ownr (n : ℕ) (s : Fin 8) (d : Dev nD) : Dev nD := xr d (dsp 0 ⟨s.val % 2 ^ n % 8, Nat.mod_lt _ (by decide)⟩)
/-- … and that the device `wr n s d` will use. -/
def wr (n : ℕ) (s : Fin 8) (d : Dev nD) : Dev nD := xr (ownr n s d) (dsp 0 s)
def tks (n : ℕ) (s : Fin 8) (d : Dev nD) : sProp 𝕄 := tk (ownr n s d) (wr n s d)
/-- The rights phase `p` brings to device `d`. -/
def tkIn (p : Fin 3) (d : Dev nD) : sProp 𝕄 :=
  bigSep (Finset.univ.filter fun s : Fin 8 => s.val.testBit p.val = true) fun s => tks (p.val + 1) s d

instance tk_storable (e r) : BI.Storable (upEmb : UEmb _ 𝕄) (tk (F := F) e r) := by
  unfold tk
  haveI : ∀ x : GC, BI.Storable (upEmb : UEmb _ 𝕄) (if bef x.2 e = r then freeG (F := F) e x else iprop(emp)) := fun x => by
    split <;> infer_instance
  infer_instance
instance tkIn_storable (p d) : BI.Storable (upEmb : UEmb _ 𝕄) (tkIn (F := F) p d) := by
  unfold tkIn tks; infer_instance

def barPay (d : Dev nD) (k : Fin 3) : sProp 𝕄 :=
  iprop(freeW 0 k (nb k d) ∗ freeW 1 (k - 1) (nb k d) ∗ freeW 2 (k - 2) (nb k d))
def rwPay (d : Dev nD) (x : WC) : sProp 𝕄 :=
  iprop(pW d (regW x.1 (2 ^ x.2.val) (2 ^ x.2.val + 2 ^ x.2.val)) fullShare (wfull m d) ∗ if x.1 = 0 then tkIn x.2 d else iprop(emp))
def swPay (d : Dev nD) (x : WC) : sProp 𝕄 := pW d (regW x.1 0 (2 ^ x.2.val)) (shn x.2.val) (wfull m d)
def rgPay (d : Dev nD) (x : GC) : sProp 𝕄 := pG d (regG x.2 x.1) fullShare (gfull m d)
def sgPay (d : Dev nD) (x : GC) : sProp 𝕄 := pA d (regA x.1) (shn x.2.val) (afull m d)

def pay (d : Dev nD) : Cell → Fin 3 → sProp 𝕄
  | .inl _, k => barPay d k
  | .inr (.inl (.inl x)), _ => rwPay m d x
  | .inr (.inl (.inr x)), _ => swPay m d x
  | .inr (.inr (.inl x)), _ => rgPay m d x
  | .inr (.inr (.inr x)), _ => sgPay m d x

instance barPay_storable (d k) : BI.Storable (upEmb : UEmb _ 𝕄) (barPay (F := F) d k) := by unfold barPay; infer_instance
instance rwPay_storable (d x) : BI.Storable (upEmb : UEmb _ 𝕄) (rwPay m d x) := by
  unfold rwPay
  haveI : BI.Storable (upEmb : UEmb _ 𝕄) (if x.1 = 0 then tkIn (F := F) x.2 d else iprop(emp)) := by split <;> infer_instance
  infer_instance
instance swPay_storable (d x) : BI.Storable (upEmb : UEmb _ 𝕄) (swPay m d x) := by unfold swPay; infer_instance
instance rgPay_storable (d x) : BI.Storable (upEmb : UEmb _ 𝕄) (rgPay m d x) := by unfold rgPay; infer_instance
instance sgPay_storable (d x) : BI.Storable (upEmb : UEmb _ 𝕄) (sgPay m d x) := by unfold sgPay; infer_instance
instance pay_storable (d k j) : BI.Storable (upEmb : UEmb _ 𝕄) (pay m d k j) :=
  match k with
  | .inl _ => barPay_storable d j
  | .inr (.inl (.inl x)) => rwPay_storable m d x
  | .inr (.inl (.inr x)) => swPay_storable m d x
  | .inr (.inr (.inl x)) => rgPay_storable m d x
  | .inr (.inr (.inr x)) => sgPay_storable m d x

/-! ## The schedule -/

/-- A unit of a cell. -/
def amt : Cell → ℕ
  | .inl _ => 1
  | .inr (.inl (.inl x)) => (vDst x.1 x.2).view.dmaCredit
  | .inr (.inl (.inr x)) => (vDst x.1 x.2).view.dmaCredit
  | .inr (.inr (.inl x)) => (vG x.2 x.1).view.dmaCredit
  | .inr (.inr (.inr x)) => (vG x.2 x.1).view.dmaCredit
def dut : Cell → Finset (Fin 3)
  | .inl _ => Finset.univ
  | .inr _ => {0}

theorem shW_pos (p : Fin 3) : 0 < (shW p).numel :=
  Shape.numel_pos fun a => by revert a; revert p; decide
theorem shG_pos : 0 < S128x256.numel := Shape.numel_pos fun a => by revert a; decide
theorem amt_pos (k : Cell) : 0 < amt k := by
  rcases k with _ | ((x | x) | (x | x))
  · exact Nat.one_pos
  · exact View.dmaCredit_pos _ (shW_pos _)
  · exact View.dmaCredit_pos _ (shW_pos _)
  · exact View.dmaCredit_pos _ shG_pos
  · exact View.dmaCredit_pos _ shG_pos

def sched : Rounds.Schedule (GSem nD τ sig) (Fin 3) 𝕄 where
  duties g r := if r = 0 ∧ g.1.2 = .tc then (match cellOfSem g.2 with | some k => dut k | none => ∅) else ∅
  unitless _ := False
  amount g _ _ := match cellOfSem g.2 with | some k => amt k | none => 1
  payload g _ j := match cellOfSem g.2 with | some k => pay m g.1.1 k j | none => iprop(emp)
  amount_pos g _ _ _ := by
    split
    · exact amt_pos _
    · exact Nat.one_pos

instance sched_storable (g : GSem nD τ sig) (r : ℕ) (j : Fin 3) :
    BI.Storable (upEmb : UEmb _ 𝕄) ((sched (F := F) m).payload g r j) := by
  show BI.Storable upEmb (match cellOfSem g.2 with | some k => pay m g.1.1 k j | none => iprop(emp))
  split <;> infer_instance

section Sched
variable (c : Dev nD) (k : Cell)

theorem duties_eq : (sched (F := F) m).duties (kcell (c, k)) 0 = dut k := by
  dsimp only [sched]; rw [if_pos ⟨rfl, rfl⟩, cellOfSem_csem]
theorem duties_later (g : GSem nD τ sig) : ∀ r, 1 ≤ r → (sched (F := F) m).duties g r = ∅ :=
  fun r hr => by dsimp only [sched]; rw [if_neg fun h => by omega]
theorem amount_eq (j : Fin 3) : (sched (F := F) m).amount (kcell (c, k)) 0 j = amt k := by
  dsimp only [sched]; rw [cellOfSem_csem]
theorem payload_eq (j : Fin 3) : (sched (F := F) m).payload (kcell (c, k)) 0 j = pay m c k j := by
  dsimp only [sched]; rw [cellOfSem_csem]
theorem expect_eq : (sched (F := F) m).expect (kcell (c, k)) 0 = (dut k).card * amt k := by
  unfold Schedule.expect Schedule.amountOf
  rw [duties_eq, Finset.sum_congr rfl fun j _ => amount_eq m c k j, Finset.sum_const, smul_eq_mul]
theorem rest_bar : bigSep ((sched (F := F) m).duties (kcell (c, kBar)) 0 \ ∅) (fun j => (sched (F := F) m).payload (kcell (c, kBar)) 0 j)
    = iprop(barPay c 0 ∗ barPay c 1 ∗ barPay c 2) := by
  rw [Finset.sdiff_empty, duties_eq]
  simp only [payload_eq]
  show bigSep Finset.univ (fun j => barPay c j) = _
  rw [bigSep_univ_eq_bigSepL [0, 1, 2] (by decide) (by decide)]
  rfl
theorem rest_dma (x : DCell) : bigSep ((sched (F := F) m).duties (kcell (c, .inr x)) 0 \ ∅) (fun j => (sched (F := F) m).payload (kcell (c, .inr x)) 0 j)
    = pay m c (.inr x) 0 := by
  rw [Finset.sdiff_empty, duties_eq]
  show bigSep {0} _ = _
  rw [bigSep_singleton, payload_eq]

end Sched

/-! ## What is owed, and the levels -/

/-- A cell and which of its units. -/
abbrev Dut := Cell × Fin 3

/-- The device whose cell device `c` pays. -/
@[reducible] def tgt (x : Dut) (c : Dev nD) : Dev nD := match x.1 with
  | .inl _ => nb x.2 c
  | .inr (.inl (.inl y)) => nb (y.1 + y.2) c
  | .inr (.inl (.inr _)) => c
  | .inr (.inr (.inl y)) => aft y.2 c
  | .inr (.inr (.inr _)) => c
/-- The device that pays device `c`'s cell. -/
def payer (x : Dut) (c : Dev nD) : Dev nD := match x.1 with
  | .inl _ => nb x.2 c
  | .inr (.inl (.inl y)) => nb (y.1 + y.2) c
  | .inr (.inl (.inr _)) => c
  | .inr (.inr (.inl y)) => bef y.2 c
  | .inr (.inr (.inr _)) => c
theorem tgt_payer (x : Dut) (c : Dev nD) : tgt x (payer x c) = c := by
  rcases x with ⟨_ | ((y | y) | (y | y)), j⟩
  · exact nb_nb _ _
  · exact nb_nb _ _
  · rfl
  · exact aft_bef _ _
  · rfl
theorem payer_tgt (x : Dut) (c : Dev nD) : payer x (tgt x c) = c := by
  rcases x with ⟨_ | ((y | y) | (y | y)), j⟩
  · exact nb_nb _ _
  · exact nb_nb _ _
  · rfl
  · exact bef_aft _ _
  · rfl
def tgtE (x : Dut) : Dev nD ≃ Dev nD := ⟨tgt x, payer x, payer_tgt x, tgt_payer x⟩

/-- What device `c` still owes, the next payment first. -/
def owe (c : Dev nD) : List Dut → CellTallies nD τ sig Unit
  | [] => 0
  | x :: l => owe c l + tallyAt (kcell (tgt x c, x.1)) () (amt x.1)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvk : Cell → ℕ
  | .inl _ => 1
  | .inr (.inl (.inl x)) => 2 + x.2.val
  | .inr (.inl (.inr _)) => 0
  | .inr (.inr (.inl _)) => 5
  | .inr (.inr (.inr _)) => 0
def lv (g : GSem nD τ sig) (_ : Unit) : ℕ := match cellOfSem g.2 with | some k => lvk k | none => 0
theorem lv_kcell (c : Dev nD) (k : Cell) (u : Unit) : lv (kcell (c, k)) u = lvk k := by
  unfold lv; rw [cellOfSem_csem]

theorem owe_pos (c : Dev nD) (l : List Dut) {g : GSem nD τ sig} {u : Unit} (h : 0 < owe c l g u) :
    ∃ x ∈ l, g = kcell (tgt x c, x.1) := by
  induction l with
  | nil => exact absurd h (Nat.lt_irrefl 0)
  | cons x l ih =>
    rcases Pipeline.add_pos_cases h with h | h
    · obtain ⟨y, hy, e⟩ := ih h
      exact ⟨y, List.mem_cons_of_mem _ hy, e⟩
    · exact ⟨x, List.mem_cons_self, (Pipeline.tallyAt_pos h).1⟩

/-- A device may wait on a cell below everything it owes. -/
theorem mayWait (c : Dev nD) (s : SemLoc sig) (l : List Dut) (h : ∀ x ∈ l, lv ((c : Thread nD τ), s) () < lvk x.1) :
    (levAts L lv : sProp 𝕄) ⊢ MayWait (c : Thread nD τ) s () (owe c l) :=
  Pipeline.mayWait_of_levAts (by rw [L_tc]; exact Finset.mem_singleton_self _) fun g i hg => by
    obtain ⟨x, hx, rfl⟩ := owe_pos c l hg
    exact ⟨by rw [L_tc]; exact Finset.mem_singleton.mpr rfl, by rw [lv_kcell]; exact h x hx⟩

end Cert.Gather
-- ==== Proof.Steps.lean ====
/-
One rule per step of the body that signals, copies or waits.
-/
module

public import proofs.«01_k».proof.Proof.Protocol

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI Idealize.SL.RA
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
abbrev 𝒱₀ : Variants := Variants.none

variable (m : (ℓ : Loc nD τ sig) → Buf (Elt F) ℓ)

/-! ## What every step has at hand -/

/-- All cells' invariants, that every cell has reached its round, and the levels. -/
def ctx (K : Dev nD × Cell → ℕ) : sProp 𝕄 :=
  iprop(bigSep Finset.univ (fun ck => cellInv ER (sched m) (K ck) (kcell ck))
    ∗ bigSep Finset.univ (fun ck : Dev nD × Cell => reached ER (kcell ck) 0) ∗ levAts L lv)
instance ctx_persistent (K : Dev nD × Cell → ℕ) : BI.Persistent (ctx m K) := by unfold ctx; infer_instance

variable (K : Dev nD × Cell → ℕ)

theorem ctx_inv (ck : Dev nD × Cell) : ctx m K ⊢ cellInv ER (sched m) (K ck) (kcell ck) := by
  unfold ctx
  exact sep_elim_left.trans (bigSep_elim (Finset.mem_univ ck))
theorem ctx_reached (ck : Dev nD × Cell) : ctx m K ⊢ reached ER (kcell ck) 0 := by
  unfold ctx
  exact sep_elim_right.trans (sep_elim_left.trans (bigSep_elim (Finset.mem_univ ck)))
theorem ctx_lev : ctx m K ⊢ levAts L lv := by
  unfold ctx
  exact sep_elim_right.trans sep_elim_right

/-- Device `c` owes the list. -/
def Ow (c : Dev nD) (l : List Dut) : sProp 𝕄 := iprop(∃ W, owes (c : Thread nD τ) (owe c l) W)
/-- The right to make a payment. -/
def tok (c : Dev nD) (x : Dut) : sProp 𝕄 := dutyTok ER (kcell (tgt x c, x.1)) 0 x.2
/-- The owner's place at a cell before its round. -/
def pos (c : Dev nD) (k : Cell) : sProp 𝕄 := atPos ER (kcell (c, k)) 0 ∅ 0
/-- The cell is done with. -/
def clo (c : Dev nD) (k : Cell) : sProp 𝕄 := semVal (kcell (c, k)) 0
/-- The right to wait for `n` on a cell. -/
def crd (c : Dev nD) (k : Cell) (n : ℕ) : sProp 𝕄 := cred (tallyAt (kcell (c, k)) () n)

variable (c : Dev nD)

/-! ## The barrier -/

theorem step_sig (k : Fin 3) (n : Dev nD) (hn : n = nb k c) (l : List Dut) (Kt : PUnit → sProp 𝕄) :
    iprop(ctx m K ∗ Ow c ((kBar, k) :: l) ∗ tok c (kBar, k) ∗ freeW 0 k c ∗ freeW 1 (k - 1) c ∗ freeW 2 (k - 2) c
        ∗ (Ow c l -∗ Kt ⟨⟩))
      ⊢ wp frame (wpE (defs₀ (F := F)) 𝒱₀ (c : Thread nD τ) none) Set.univ (sig1 n) Kt := by
  subst hn
  unfold sig1 Ow tok
  simp only [semSignalWord, Prog.lift]
  iintro ⟨#Hc, ⟨%W, HO⟩, Ht, H0, H1, H2, Hk⟩
  iapply (Rounds.wp_signal 𝒱₀ ER (sched m) (c : Thread nD τ) none (dst := (nb k c : Thread nD τ)) (κ := K (nb k c, kBar))
      (d := k) (by rw [show ((nb k c : Thread nD τ), SemLoc.reg semBar) = kcell (nb k c, kBar) from rfl, duties_eq]; exact Finset.mem_univ _)
      ((amount_eq m (nb k c) kBar k).trans (by decide)) () (owe c l) rfl) $$ [HO Ht H0 H1 H2]
  · isplitr; · iapply (ctx_inv m K (nb k c, kBar)); iexact Hc
    isplitl [HO]; · iexact HO
    isplitl [Ht]; · iexact Ht
    isplitl [H0 H1 H2]
    · rw [show ((nb k c : Thread nD τ), SemLoc.reg semBar) = kcell (nb k c, kBar) from rfl, payload_eq, show pay m (nb k c) kBar k = barPay (nb k c) k from rfl]
      unfold barPay
      rw [nb_nb]
      isplitl [H0]; · iexact H0
      isplitl [H1]; · iexact H1
      iexact H2
    · iapply (ctx_reached m K (nb k c, kBar)); iexact Hc
  iintro HO
  rw [wp_ret]; imodintro
  iapply Hk
  iexists W; iexact HO

theorem step_bar (l : List Dut) (hl : ∀ x ∈ l, 1 < lvk x.1) (Kt : PUnit → sProp 𝕄) :
    iprop(ctx m K ∗ Ow c l ∗ crd c kBar 3 ∗ pos c kBar
        ∗ ((Ow c l ∗ clo c kBar ∗ barPay c 0 ∗ barPay c 1 ∗ barPay c 2) -∗ Kt ⟨⟩))
      ⊢ wp frame (wpE (defs₀ (F := F)) 𝒱₀ (c : Thread nD τ) none) Set.univ (semWaitWord semBar 3#32) Kt := by
  unfold Ow crd pos clo
  simp only [semWaitWord, Prog.lift]
  iintro ⟨#Hc, ⟨%W, HO⟩, Hcr, Hat, Hk⟩
  iapply (Rounds.wp_wait_rest_token 𝒱₀ ER (sched m) (c : Thread nD τ) none (κ := K (c, kBar))
      (wpE_semWait_eq 𝒱₀ (c : Thread nD τ) none Set.univ) (Set.mem_univ _) () (O := owe c l) (W := W) (R := 0) (m := 0) (T := ∅)
      (by rw [show ((c : Thread nD τ), SemLoc.reg semBar) = kcell (c, kBar) from rfl, expect_eq]; rfl)) $$ [HO Hcr Hat]
  · isplitr; · iapply (ctx_inv m K (c, kBar)); iexact Hc
    isplitl [Hcr]; · iexact Hcr
    isplitl [HO]; · iexact HO
    isplitr
    · iapply (mayWait (F := F) c (.reg semBar) l fun x hx => (by
        rw [show ((c : Thread nD τ), SemLoc.reg semBar) = kcell (c, kBar) from rfl, lv_kcell]; exact hl x hx))
      iapply (ctx_lev m K); iexact Hc
    iexact Hat
  iintro ⟨HO, Hat, -, Hp⟩
  ihave Hp := (Entails.of_eq (rest_bar m c)) $$ Hp
  imod (Rounds.cell_close ER (sched m) (Set.mem_univ (K (c, kBar))) (fun h => h) (R := 0 + 1) (duties_later m (kcell (c, kBar)))) $$ [Hat] with Hz
  · isplitr; · iapply (ctx_inv m K (c, kBar)); iexact Hc
    iexact Hat
  rw [wp_ret]; imodintro
  iapply Hk
  isplitl [HO]; · iexists _; iexact HO
  isplitl [Hz]; · iexact Hz
  iexact Hp

/-! ## The waits for copies -/

theorem step_wait {s : Shape} {e : EltTy} (x : DCell) (sem : DmaSem sig) (hs : osem x = .dma sem) (src dst : Memref sig .tc .vmem s e)
    (h1 : src.view.WordExact) (h2 : dst.view.WordExact) (hk : dst.view.dmaCredit = amt (.inr x))
    (l : List Dut) (hl : ∀ y ∈ l, lvk (.inr x) < lvk y.1) (Kt : PUnit → sProp 𝕄) :
    iprop(ctx m K ∗ Ow c l ∗ crd c (.inr x) (amt (.inr x)) ∗ pos c (.inr x)
        ∗ ((Ow c l ∗ clo c (.inr x) ∗ pay m c (.inr x) 0) -∗ Kt ⟨⟩))
      ⊢ wp frame (wpE (defs₀ (F := F)) 𝒱₀ (c : Thread nD τ) none) Set.univ (Prog.lift (.waitDma2 sem src dst h1 h2)) Kt := by
  have hcell : ((c : Thread nD τ), SemLoc.dma sem) = kcell (c, .inr x) := by rw [← hs]
  unfold Ow crd pos clo
  simp only [Prog.lift]
  rw [← hcell]
  iintro ⟨#Hc, ⟨%W, HO⟩, Hcr, Hat, Hk⟩
  iapply (Rounds.wp_wait_rest_token 𝒱₀ ER (sched m) (c : Thread nD τ) none (κ := K (c, .inr x))
      (k' := dst.view.dmaCredit)
      (wpE_waitDma2_eq 𝒱₀ (c : Thread nD τ) none Set.univ) (Set.mem_univ _) () (O := owe c l) (W := W) (R := 0) (m := 0) (T := ∅)
      (by rw [hcell, expect_eq, hk, Nat.zero_add]; exact (Nat.one_mul _).symm)) $$ [HO Hcr Hat]
  · isplitr; · rw [hcell]; iapply (ctx_inv m K (c, .inr x)); iexact Hc
    isplitl [Hcr]; · rw [hk]; iexact Hcr
    isplitl [HO]; · iexact HO
    isplitr
    · iapply (mayWait (F := F) c (.dma sem) l fun y hy => (by rw [hcell, lv_kcell]; exact hl y hy))
      iapply (ctx_lev m K); iexact Hc
    iexact Hat
  iintro ⟨HO, Hat, -, Hp⟩
  rw [hcell]
  ihave Hp := (Entails.of_eq (rest_dma m c x)) $$ Hp
  imod (Rounds.cell_close ER (sched m) (Set.mem_univ (K (c, .inr x))) (fun h => h) (R := 0 + 1) (duties_later m (kcell (c, .inr x)))) $$ [Hat] with Hz
  · isplitr; · iapply (ctx_inv m K (c, .inr x)); iexact Hc
    iexact Hat
  rw [wp_ret]; imodintro
  iapply Hk
  isplitl [HO]; · iexists _; iexact HO
  isplitl [Hz]; · iexact Hz
  iexact Hp

theorem step_recvW (L p : Fin 3) (l : List Dut) (hl : ∀ y ∈ l, 2 + p.val < lvk y.1) (Kt : PUnit → sProp 𝕄) :
    iprop(ctx m K ∗ Ow c l ∗ crd c (kRW (L, p)) (amt (kRW (L, p))) ∗ pos c (kRW (L, p))
        ∗ ((Ow c l ∗ clo c (kRW (L, p)) ∗ rwPay m c (L, p)) -∗ Kt ⟨⟩))
      ⊢ wp frame (wpE (defs₀ (F := F)) 𝒱₀ (c : Thread nD τ) none) Set.univ (recvW L p) Kt :=
  step_wait m K c (.inl (.inl (L, p))) (semRW L p) rfl (vSrc L p) (vDst L p) _ _ rfl l hl Kt

theorem sentW_credit (L p : Fin 3) : (vSrc L p).view.dmaCredit = (vDst L p).view.dmaCredit := rfl
theorem step_sentW (L p : Fin 3) (Kt : PUnit → sProp 𝕄) :
    iprop(ctx m K ∗ Ow c [] ∗ crd c (kSW (L, p)) (amt (kSW (L, p))) ∗ pos c (kSW (L, p))
        ∗ ((Ow c [] ∗ clo c (kSW (L, p)) ∗ swPay m c (L, p)) -∗ Kt ⟨⟩))
      ⊢ wp frame (wpE (defs₀ (F := F)) 𝒱₀ (c : Thread nD τ) none) Set.univ (sentW L p) Kt :=
  step_wait m K c (.inl (.inr (L, p))) (semSW L p) rfl (vDst L p) (vSrc L p) _ _ (sentW_credit L p) [] (fun y hy => absurd hy List.not_mem_nil) Kt

theorem step_gotG (q : Fin 4) (a : Fin 7) (Kt : PUnit → sProp 𝕄) :
    iprop(ctx m K ∗ Ow c [] ∗ crd c (kRG (q, a)) (amt (kRG (q, a))) ∗ pos c (kRG (q, a))
        ∗ ((Ow c [] ∗ clo c (kRG (q, a)) ∗ rgPay m c (q, a)) -∗ Kt ⟨⟩))
      ⊢ wp frame (wpE (defs₀ (F := F)) 𝒱₀ (c : Thread nD τ) none) Set.univ
          (Prog.lift (.waitDma2 (semRG a q) (vA q) (vG a q) (vA_exact q) (vG_exact a q))) Kt :=
  step_wait m K c (.inr (.inl (q, a))) (semRG a q) rfl (vA q) (vG a q) _ _ rfl [] (fun y hy => absurd hy List.not_mem_nil) Kt

theorem sentG_credit (q : Fin 4) (a : Fin 7) : (vA q).view.dmaCredit = (vG a q).view.dmaCredit := rfl
theorem step_sentG (q : Fin 4) (a : Fin 7) (Kt : PUnit → sProp 𝕄) :
    iprop(ctx m K ∗ Ow c [] ∗ crd c (kSG (q, a)) (amt (kSG (q, a))) ∗ pos c (kSG (q, a))
        ∗ ((Ow c [] ∗ clo c (kSG (q, a)) ∗ sgPay m c (q, a)) -∗ Kt ⟨⟩))
      ⊢ wp frame (wpE (defs₀ (F := F)) 𝒱₀ (c : Thread nD τ) none) Set.univ (sentG (q, a)) Kt :=
  step_wait m K c (.inr (.inr (q, a))) (semSG a q) rfl (vG a q) (vA q) _ _ (sentG_credit q a) [] (fun y hy => absurd hy List.not_mem_nil) Kt

/-! ## The copies -/

theorem step_sendW' (L p : Fin 3) (n : Dev nD) (hn : n = nb (L + p) c) (l : List Dut) (Kt : PUnit → sProp 𝕄) :
    iprop(ctx m K ∗ Ow c ((kRW (L, p), 0) :: l) ∗ tok c (kRW (L, p), 0) ∗ tok c (kSW (L, p), 0)
        ∗ swPay m c (L, p) ∗ freeW L p (nb (L + p) c) ∗ (if L = 0 then tkIn p (nb (L + p) c) else iprop(emp))
        ∗ ((Ow c l ∗ crd c (kSW (L, p)) (amt (kSW (L, p)))) -∗ Kt ⟨⟩))
      ⊢ wp frame (wpE (defs₀ (F := F)) 𝒱₀ (c : Thread nD τ) none) Set.univ
          (Prog.lift (.enqueueDma (vSrc L p) (.remote (Dev.tc n) (vDst L p) (.dma (semSW L p))) (.dma (semRW L p))
            (vW_exact L p 0 (src_le p)) (vW_exact L p (top p) (dst_le p)) ⟨⟨rfl, Or.inl rfl⟩, trivial⟩)) Kt := by
  subst hn
  unfold Ow crd tok freeW
  simp only [Prog.lift]
  iintro ⟨#Hc, ⟨%W, HO⟩, Ht, Hts, Hs, ⟨%f, Hd⟩, HF, Hk⟩
  have hS : (vSrc L p).view.set = regW L 0 (2 ^ p.val) := (set_vW L p 0 (src_le p)).trans (by rw [show (0 : Fin 5).val = 0 from rfl, Nat.zero_add])
  have hD : (vDst L p).view.set = regW L (2 ^ p.val) (2 ^ p.val + 2 ^ p.val) := (set_vW L p (top p) (dst_le p)).trans (by rw [top_val])
  unfold swPay
  rw [← hS, ← hD]
  unfold pW
  iapply (Rounds.wp_send_pointsTo_with 𝒱₀ ER (sched m) (c : Thread nD τ) none (c' := (nb (L + p) c : Thread nD τ))
      (κ₁ := K (c, kSW (L, p))) (κ₂ := K (nb (L + p) c, kRW (L, p))) (r₁ := 0) (r₂ := 0) (d₁ := 0) (d₂ := 0)
      (F := if L = 0 then tkIn p (nb (L + p) c) else iprop(emp))
      (src := vSrc L p) (dst := vDst L p) (q := shn p.val) (fs := wfull m c) (fd := f)
      (by rw [show ((c : Thread nD τ), SemLoc.dma (semSW L p)) = kcell (c, kSW (L, p)) from rfl, duties_eq]; exact Finset.mem_singleton_self _)
      (by rw [show ((nb (L + p) c : Thread nD τ), SemLoc.dma (semRW L p)) = kcell (nb (L + p) c, kRW (L, p)) from rfl, duties_eq]; exact Finset.mem_singleton_self _)
      () () (amt (kRW (L, p))) rfl (amount_eq m c (kSW (L, p)) 0) (amount_eq m (nb (L + p) c) (kRW (L, p)) 0)
      (owe c l) rfl (W := W)
      (by
        rw [show ((c : Thread nD τ), SemLoc.dma (semSW L p)) = kcell (c, kSW (L, p)) from rfl, payload_eq]
        show _ ⊢ swPay m c (L, p)
        unfold swPay pW
        rw [← hS])
      (by
        rw [show ((nb (L + p) c : Thread nD τ), SemLoc.dma (semRW L p)) = kcell (nb (L + p) c, kRW (L, p)) from rfl, payload_eq]
        show _ ⊢ rwPay m (nb (L + p) c) (L, p)
        unfold rwPay pW
        rw [← hD]
        refine sep_mono_left ?_
        exact Entails.of_eq (pointsTo_congr fun i hi => landW m L p c f i hi))) $$ [HO Ht Hts Hs Hd HF]
  · isplitr; · iapply (ctx_inv m K (c, kSW (L, p))); iexact Hc
    isplitr; · iapply (ctx_inv m K (nb (L + p) c, kRW (L, p))); iexact Hc
    isplitl [Hs]; · iexact Hs
    isplitl [Hd HF]
    · isplitl [Hd]; · iexact Hd
      iexact HF
    isplitl [HO]; · iexact HO
    isplitl [Hts]; · iexact Hts
    isplitr; · iapply (ctx_reached m K (c, kSW (L, p))); iexact Hc
    isplitl [Ht]; · iexact Ht
    iapply (ctx_reached m K (nb (L + p) c, kRW (L, p))); iexact Hc
  iintro ⟨Hcr, HO⟩
  rw [wp_ret]; imodintro
  iapply Hk
  isplitl [HO]; · iexists W; iexact HO
  iexact Hcr

theorem step_sendW (L p : Fin 3) (l : List Dut) (Kt : PUnit → sProp 𝕄) :
    iprop(ctx m K ∗ Ow c ((kRW (L, p), 0) :: l) ∗ tok c (kRW (L, p), 0) ∗ tok c (kSW (L, p), 0)
        ∗ swPay m c (L, p) ∗ freeW L p (nb (L + p) c) ∗ (if L = 0 then tkIn p (nb (L + p) c) else iprop(emp))
        ∗ ((Ow c l ∗ crd c (kSW (L, p)) (amt (kSW (L, p)))) -∗ Kt ⟨⟩))
      ⊢ wp frame (wpE (defs₀ (F := F)) 𝒱₀ (c : Thread nD τ) none) Set.univ (sendW c L p) Kt :=
  step_sendW' m K c L p (toW L p c) (toW_eq L p c) l Kt

theorem step_sendG' (q : Fin 4) (a : Fin 7) (n : Dev nD) (hn : n = aft a c) (l : List Dut) (Kt : PUnit → sProp 𝕄) :
    iprop(ctx m K ∗ Ow c ((kRG (q, a), 0) :: l) ∗ tok c (kRG (q, a), 0) ∗ tok c (kSG (q, a), 0)
        ∗ sgPay m c (q, a) ∗ freeG (aft a c) (q, a)
        ∗ ((Ow c l ∗ crd c (kSG (q, a)) (amt (kSG (q, a)))) -∗ Kt ⟨⟩))
      ⊢ wp frame (wpE (defs₀ (F := F)) 𝒱₀ (c : Thread nD τ) none) Set.univ
          (Prog.lift (.enqueueDma (vA q) (.remote (Dev.tc n) (vG a q) (.dma (semSG a q))) (.dma (semRG a q))
            (vA_exact q) (vG_exact a q) ⟨⟨rfl, Or.inl rfl⟩, trivial⟩)) Kt := by
  subst hn
  unfold Ow crd tok freeG
  simp only [Prog.lift]
  iintro ⟨#Hc, ⟨%W, HO⟩, Ht, Hts, Hs, ⟨%f, Hd⟩, Hk⟩
  have hS := set_vA q
  have hD := set_vG a q
  unfold sgPay
  rw [← hS, ← hD]
  unfold pA pG
  iapply (Rounds.wp_send_pointsTo 𝒱₀ ER (sched m) (c : Thread nD τ) none (c' := (aft a c : Thread nD τ))
      (κ₁ := K (c, kSG (q, a))) (κ₂ := K (aft a c, kRG (q, a))) (r₁ := 0) (r₂ := 0) (d₁ := 0) (d₂ := 0)
      (src := vA q) (dst := vG a q) (q := shn a.val) (fs := afull m c) (fd := f)
      (by rw [show ((c : Thread nD τ), SemLoc.dma (semSG a q)) = kcell (c, kSG (q, a)) from rfl, duties_eq]; exact Finset.mem_singleton_self _)
      (by rw [show ((aft a c : Thread nD τ), SemLoc.dma (semRG a q)) = kcell (aft a c, kRG (q, a)) from rfl, duties_eq]; exact Finset.mem_singleton_self _)
      () () (amt (kRG (q, a))) rfl (amount_eq m c (kSG (q, a)) 0) (amount_eq m (aft a c) (kRG (q, a)) 0)
      (owe c l) rfl (W := W)
      (by
        rw [show ((c : Thread nD τ), SemLoc.dma (semSG a q)) = kcell (c, kSG (q, a)) from rfl, payload_eq]
        show _ ⊢ sgPay m c (q, a)
        unfold sgPay pA
        rw [← hS])
      (by
        rw [show ((aft a c : Thread nD τ), SemLoc.dma (semRG a q)) = kcell (aft a c, kRG (q, a)) from rfl, payload_eq]
        show _ ⊢ rgPay m (aft a c) (q, a)
        unfold rgPay pG
        rw [← hD]
        exact Entails.of_eq (pointsTo_congr fun i hi => landG m a q c f i hi))) $$ [HO Ht Hts Hs Hd]
  · isplitr; · iapply (ctx_inv m K (c, kSG (q, a))); iexact Hc
    isplitr; · iapply (ctx_inv m K (aft a c, kRG (q, a))); iexact Hc
    isplitl [Hs]; · iexact Hs
    isplitl [Hd]; · iexact Hd
    isplitl [HO]; · iexact HO
    isplitl [Hts]; · iexact Hts
    isplitr; · iapply (ctx_reached m K (c, kSG (q, a))); iexact Hc
    isplitl [Ht]; · iexact Ht
    iapply (ctx_reached m K (aft a c, kRG (q, a))); iexact Hc
  iintro ⟨Hcr, HO⟩
  rw [wp_ret]; imodintro
  iapply Hk
  isplitl [HO]; · iexists W; iexact HO
  iexact Hcr

theorem step_sendG (q : Fin 4) (a : Fin 7) (l : List Dut) (Kt : PUnit → sProp 𝕄) :
    iprop(ctx m K ∗ Ow c ((kRG (q, a), 0) :: l) ∗ tok c (kRG (q, a), 0) ∗ tok c (kSG (q, a), 0)
        ∗ sgPay m c (q, a) ∗ freeG (aft a c) (q, a)
        ∗ ((Ow c l ∗ crd c (kSG (q, a)) (amt (kSG (q, a)))) -∗ Kt ⟨⟩))
      ⊢ wp frame (wpE (defs₀ (F := F)) 𝒱₀ (c : Thread nD τ) none) Set.univ (sendG c q a) Kt :=
  step_sendG' m K c q a (toG a c) (toG_eq a c) l Kt

end Cert.Gather
-- ==== Proof.Shares.lean ====
/-
How the buffers are cut into the parts that the body works on, how shares of the weights go to the copies and come back,
and how the rights to write the gather buffers travel.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI Idealize.SL.RA
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Lists -/

theorem pairs_univ : (Finset.univ : Finset GC) = pairs.toFinset := by decide
theorem pairs_nodup : pairs.Nodup := by decide
theorem nine_univ : (Finset.univ : Finset WC) = nine.toFinset := by decide
theorem nine_nodup : nine.Nodup := by decide

theorem over_swap {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod fun x : α × β => Φ x.1 x.2, ← bigSep_univ_prod fun x : β × α => Φ x.2 x.1,
    bigSep_univ_equiv (Equiv.prodComm β α) fun x : α × β => Φ x.1 x.2]
  rfl
theorem only_one {α : Type} [Fintype α] [DecidableEq α] (i : α) (Φ : α → sProp 𝕄) :
    bigSep Finset.univ (fun r => if r = i then Φ r else iprop(emp)) = Φ i := by
  rw [show (bigSep Finset.univ fun r => if r = i then Φ r else iprop(emp)) = _ from (bigSep_filter Finset.univ (fun r => r = i) Φ).symm,
    Finset.filter_eq', if_pos (Finset.mem_univ _), bigSep_singleton]
theorem take_one {α : Type} [DecidableEq α] {s : Finset α} {i : α} (h : i ∈ s) (Φ : α → sProp 𝕄) :
    bigSep s Φ = iprop(Φ i ∗ bigSep (s.erase i) Φ) := bigSep_erase h
theorem by_test {α : Type} [DecidableEq α] (s : Finset α) (p : α → Prop) [DecidablePred p] (Φ : α → sProp 𝕄) :
    bigSep s Φ = iprop(bigSep (s.filter p) Φ ∗ bigSep (s.filter fun i => ¬ p i) Φ) := bigSep_filter_split s p
theorem over_sum {α β : Type} [Fintype α] [Fintype β] (Φ : α ⊕ β → sProp 𝕄) :
    bigSep Finset.univ Φ = iprop(bigSep Finset.univ (fun a => Φ (.inl a)) ∗ bigSep Finset.univ fun b => Φ (.inr b)) := bigSep_univ_sum Φ
theorem over_unit (Φ : Unit → sProp 𝕄) : bigSep Finset.univ Φ = Φ () :=
  bigSep_univ_eq_bigSepL [()] (by decide) (by decide) Φ
theorem over_pairs (Φ : GC → sProp 𝕄) : bigSep Finset.univ Φ = bigSepL pairs Φ :=
  bigSep_univ_eq_bigSepL pairs pairs_univ pairs_nodup Φ
theorem over_nine (Φ : WC → sProp 𝕄) : bigSep Finset.univ Φ = bigSepL nine Φ :=
  bigSep_univ_eq_bigSepL nine nine_univ nine_nodup Φ
theorem over_four (Φ : Fin 4 → sProp 𝕄) : bigSep Finset.univ Φ = bigSepL [0, 1, 2, 3] Φ :=
  bigSep_univ_eq_bigSepL _ (by decide) (by decide) Φ
theorem over_three (Φ : Fin 3 → sProp 𝕄) : bigSep Finset.univ Φ = bigSepL [0, 1, 2] Φ :=
  bigSep_univ_eq_bigSepL _ (by decide) (by decide) Φ
theorem over_seven (Φ : Fin 7 → sProp 𝕄) : bigSep Finset.univ Φ = bigSepL [0, 1, 2, 3, 4, 5, 6] Φ :=
  bigSep_univ_eq_bigSepL _ (by decide) (by decide) Φ

theorem bigSepL_two {α : Type} (x y : α) (l : List α) (Φ : α → sProp 𝕄) :
    bigSepL (x :: y :: l) Φ = iprop(Φ x ∗ bigSepL (y :: l) Φ) := rfl
theorem bigSepL_sep {α : Type} (l : List α) (Φ Ψ : α → sProp 𝕄) :
    bigSepL l (fun x => iprop(Φ x ∗ Ψ x)) ⊣⊢ iprop(bigSepL l Φ ∗ bigSepL l Ψ) := by
  induction l with
  | nil =>
    constructor
    · show iprop(emp) ⊢ iprop(emp ∗ emp)
      iintro -
      isplitr <;> iempintro
    · show iprop(emp ∗ emp) ⊢ iprop(emp)
      exact sep_elim_left
  | cons x l ih =>
    rw [bigSepL_cons', bigSepL_cons', bigSepL_cons']
    constructor
    · iintro ⟨⟨H1, H2⟩, Hl⟩
      ihave Hl := ih.1 $$ Hl
      icases Hl with ⟨H3, H4⟩
      isplitl [H1 H3]
      · isplitl [H1]; · iexact H1
        iexact H3
      isplitl [H2]; · iexact H2
      iexact H4
    · iintro ⟨⟨H1, H3⟩, ⟨H2, H4⟩⟩
      isplitl [H1 H2]
      · isplitl [H1]; · iexact H1
        iexact H2
      iapply ih.2
      isplitl [H3]; · iexact H3
      iexact H4

/-! ## The weights -/

theorem regW_union (L : Fin 3) (a b d : ℕ) (h1 : a ≤ b) (h2 : b ≤ d) : regW L a b ∪ regW L b d = regW L a d := by
  ext i
  simp only [regW, Finset.mem_union, Finset.mem_filter, Finset.mem_univ, true_and]
  omega
theorem regW_disjoint (L : Fin 3) (a b d : ℕ) : Disjoint (regW L a b) (regW L b d) := by
  rw [Finset.disjoint_left]
  intro i
  simp only [regW, Finset.mem_filter, Finset.mem_univ, true_and]
  omega
theorem regW_empty (L : Fin 3) (a : ℕ) : regW L a a = ∅ := by
  ext i
  simp only [regW, Finset.mem_filter, Finset.mem_univ, true_and, Finset.notMem_empty, iff_false]
  omega
theorem pW_union (c : Dev nD) (L : Fin 3) (a b d : ℕ) (h1 : a ≤ b) (h2 : b ≤ d) (q : PosShare TreeShare) (f : S3x8x2x512x256.Idx → Elt F .bf16) :
    iprop(pW c (regW L a b) q f ∗ pW c (regW L b d) q f) ⊢ pW c (regW L a d) q f := by
  rw [← regW_union L a b d h1 h2]
  exact (pointsTo_union (regW_disjoint L a b d)).2
theorem pW_none (c : Dev nD) (L : Fin 3) (a : ℕ) (q : PosShare TreeShare) (f : S3x8x2x512x256.Idx → Elt F .bf16) :
    (pW c (regW L a a) q f : sProp 𝕄) = iprop(emp) := by
  unfold pW
  rw [regW_empty]
  exact pointsTo_empty

/-- The four shares of the weights: one for each phase's copy, and one to read through. -/
def sh : Fin 4 → PosShare TreeShare := ![shn 0, shn 1, shn 2, rem 3]
theorem pW_shares (c : Dev nD) (S : Finset S3x8x2x512x256.Idx) (f : S3x8x2x512x256.Idx → Elt F .bf16) :
    pW c S fullShare f ⊣⊢ bigSep Finset.univ fun t => pW c S (sh t) f := by
  rw [over_four]
  have h0 : pW c S (rem 0) f ⊣⊢ iprop(pW c S (shn 0) f ∗ pW c S (rem 1) f) := pointsTo_share (rem_split 0)
  have h1 : pW c S (rem 1) f ⊣⊢ iprop(pW c S (shn 1) f ∗ pW c S (rem 2) f) := pointsTo_share (rem_split 1)
  have h2 : pW c S (rem 2) f ⊣⊢ iprop(pW c S (shn 2) f ∗ pW c S (rem 3) f) := pointsTo_share (rem_split 2)
  rw [show pW c S fullShare f = pW c S (rem 0) f from rfl, Entails.antisymm h0.1 h0.2, Entails.antisymm h1.1 h1.2,
    Entails.antisymm h2.1 h2.2]
  exact ⟨BI.Entails.refl _, BI.Entails.refl _⟩

/-- Where the share `t` of layer `L`'s weights begins once `n` copies have started. -/
def from' (n : ℕ) (t : Fin 4) : ℕ := if t.val < n then 2 ^ t.val else 0
/-- Layer `L`'s weights on `c` after `k` landings and with `n` copies started. -/
def ls (L : Fin 3) (k n : ℕ) (c : Dev nD) : sProp 𝕄 :=
  bigSep Finset.univ fun t : Fin 4 => pW c (regW L (from' n t) (2 ^ k)) (sh t) (wfull m c)

theorem from_le (n : ℕ) (t : Fin 4) (k : ℕ) (h : n ≤ k + 1) : from' n t ≤ 2 ^ k := by
  unfold from'
  split
  · exact Nat.pow_le_pow_right (by decide) (by omega)
  · exact Nat.zero_le _

theorem ls_start (L : Fin 3) (c : Dev nD) :
    iprop(pW c (regK L 0) fullShare (wfull m c) ∗ pW c (regK L 1) fullShare (wfull m c)) ⊢ ls m L 0 0 c := by
  have hu : regK L 0 ∪ regK L 1 = regW L 0 1 := by
    ext i
    have h2 : (i 2).val < 2 := (i 2).2
    simp only [regW, regK, Finset.mem_union, Finset.mem_filter, Finset.mem_univ, true_and, Fin.val_zero, Fin.val_one]
    omega
  have hd : Disjoint (regK L 0) (regK L 1) := by
    rw [Finset.disjoint_left]
    intro i
    simp only [regK, Finset.mem_filter, Finset.mem_univ, true_and, Fin.val_zero, Fin.val_one]
    omega
  have h1 : iprop(pW c (regK L 0) fullShare (wfull m c) ∗ pW c (regK L 1) fullShare (wfull m c))
      ⊢ pW c (regW L 0 1) fullShare (wfull m c) := by
    rw [← hu]
    exact (pointsTo_union hd).2
  refine h1.trans ((pW_shares c _ _).1.trans (Entails.of_eq ?_))
  unfold ls
  refine bigSep_congr fun t _ => ?_
  unfold from'
  rw [if_neg (Nat.not_lt_zero _), Nat.pow_zero]

theorem ls_send (L p : Fin 3) (c : Dev nD) : ls m L p.val p.val c ⊢ iprop(swPay m c (L, p) ∗ ls m L p.val (p.val + 1) c) := by
  unfold ls swPay
  rw [take_one (Finset.mem_univ (p.castSucc : Fin 4)), take_one (Finset.mem_univ (p.castSucc : Fin 4))]
  have ep : from' p.val p.castSucc = 0 := if_neg (Nat.lt_irrefl _)
  have ep' : from' (p.val + 1) p.castSucc = 2 ^ p.val := if_pos (Nat.lt_succ_self _)
  have es : sh p.castSucc = shn p.val := by fin_cases p <;> rfl
  rw [ep, ep', es, pW_none]
  have er : bigSep (Finset.univ.erase (p.castSucc : Fin 4)) (fun t => pW c (regW L (from' p.val t) (2 ^ p.val)) (sh t) (wfull m c))
      = bigSep (Finset.univ.erase (p.castSucc : Fin 4)) (fun t => pW c (regW L (from' (p.val + 1) t) (2 ^ p.val)) (sh t) (wfull m c)) := by
    refine bigSep_congr fun t ht => ?_
    have hne : t.val ≠ p.val := fun h => Finset.ne_of_mem_erase ht (Fin.ext h)
    have : from' p.val t = from' (p.val + 1) t := by
      unfold from'
      by_cases h : t.val < p.val
      · rw [if_pos h, if_pos (by omega)]
      · rw [if_neg h, if_neg (by omega)]
    rw [this]
  rw [er]
  iintro ⟨H1, H2⟩
  isplitl [H1]; · iexact H1
  isplitr; · iempintro
  iexact H2

theorem ls_recv (L p : Fin 3) (c : Dev nD) :
    iprop(ls m L p.val (p.val + 1) c ∗ pW c (regW L (2 ^ p.val) (2 ^ p.val + 2 ^ p.val)) fullShare (wfull m c))
      ⊢ ls m L (p.val + 1) (p.val + 1) c := by
  refine (sep_mono_right (pW_shares c _ _).1).trans ?_
  unfold ls
  rw [← bigSep_sep']
  refine bigSep_mono fun t _ => ?_
  rw [show 2 ^ (p.val + 1) = 2 ^ p.val + 2 ^ p.val by rw [Nat.pow_succ]; omega]
  exact pW_union c L _ _ _ (from_le _ _ _ le_rfl) (Nat.le_add_right _ _) _ _

theorem ls_end (L : Fin 3) (c : Dev nD) :
    iprop(ls m L 3 3 c ∗ swPay m c (L, 0) ∗ swPay m c (L, 1) ∗ swPay m c (L, 2)) ⊢ pW c (regW L 0 8) fullShare (wfull m c) := by
  refine BI.Entails.trans ?_ (pW_shares c _ _).2
  unfold ls swPay
  rw [over_four, over_four]
  show iprop((pW c (regW L 1 8) (shn 0) (wfull m c) ∗ pW c (regW L 2 8) (shn 1) (wfull m c)
      ∗ pW c (regW L 4 8) (shn 2) (wfull m c) ∗ pW c (regW L 0 8) (rem 3) (wfull m c))
      ∗ pW c (regW L 0 1) (shn 0) (wfull m c) ∗ pW c (regW L 0 2) (shn 1) (wfull m c) ∗ pW c (regW L 0 4) (shn 2) (wfull m c))
    ⊢ iprop(pW c (regW L 0 8) (shn 0) (wfull m c) ∗ pW c (regW L 0 8) (shn 1) (wfull m c)
      ∗ pW c (regW L 0 8) (shn 2) (wfull m c) ∗ pW c (regW L 0 8) (rem 3) (wfull m c))
  iintro ⟨⟨H0, H1, H2, H3⟩, G0, G1, G2⟩
  isplitl [H0 G0]
  · iapply (pW_union c L 0 1 8 (by decide) (by decide) _ _)
    isplitl [G0]; · iexact G0
    iexact H0
  isplitl [H1 G1]
  · iapply (pW_union c L 0 2 8 (by decide) (by decide) _ _)
    isplitl [G1]; · iexact G1
    iexact H1
  isplitl [H2 G2]
  · iapply (pW_union c L 0 4 8 (by decide) (by decide) _ _)
    isplitl [G2]; · iexact G2
    iexact H2
  iexact H3

/-- The share that the loads go through, and the others. -/
def lsRest (L : Fin 3) (k n : ℕ) (c : Dev nD) : sProp 𝕄 :=
  bigSep (Finset.univ.erase (3 : Fin 4)) fun t : Fin 4 => pW c (regW L (from' n t) (2 ^ k)) (sh t) (wfull m c)
theorem ls_read (L : Fin 3) (k n : ℕ) (hn : n ≤ 3) (c : Dev nD) :
    ls m L k n c = iprop(pW c (regW L 0 (2 ^ k)) (rem 3) (wfull m c) ∗ lsRest m L k n c) := by
  unfold ls lsRest
  rw [take_one (Finset.mem_univ (3 : Fin 4))]
  have : from' n 3 = 0 := if_neg (by show ¬ 3 < n; omega)
  rw [this]
  rfl

/-- The parts of a device's weights: the own slot's two halves, and what each phase fills. -/
def partW (x : Fin 3 × Fin 5) : Finset S3x8x2x512x256.Idx := match x.2 with
  | 0 => regK x.1 0
  | 1 => regK x.1 1
  | 2 => regW x.1 1 2
  | 3 => regW x.1 2 4
  | 4 => regW x.1 4 8
/-- Which part an element is in. -/
def ofW (i : S3x8x2x512x256.Idx) : Fin 3 × Fin 5 :=
  (⟨(i 0).val, (i 0).2⟩, if (i 1).val = 0 then (if (i 2).val = 0 then 0 else 1) else if (i 1).val < 2 then 2 else if (i 1).val < 4 then 3 else 4)

theorem mem_partW (x : Fin 3 × Fin 5) (i : S3x8x2x512x256.Idx) : i ∈ partW x ↔ ofW i = x := by
  obtain ⟨L, t⟩ := x
  have h2 : (i 2).val < 2 := (i 2).2
  have h1 : (i 1).val < 8 := (i 1).2
  unfold ofW
  rw [Prod.mk.injEq, Fin.ext_iff]
  fin_cases t <;> simp only [partW, regK, regW, Finset.mem_filter, Finset.mem_univ, true_and] <;>
    (split_ifs <;> simp <;> omega)

theorem split_parts {ℓ : Loc nD τ sig} {T : Type} [Fintype T] [DecidableEq T] (K : T → Finset (Idx ℓ)) (of' : Idx ℓ → T)
    (h : ∀ t i, i ∈ K t ↔ of' i = t) (f : Buf (Elt F) ℓ) (q : PosShare TreeShare) :
    (ℓ ↦{q} f : sProp 𝕄) = bigSep Finset.univ fun t => ℓ ↦[K t]{q} f := by
  rw [← pointsTo_biUnion Finset.univ K fun t _ t' _ hne => by
    rw [Finset.disjoint_left]
    intro i h1 h2
    exact hne (((h t i).1 h1).symm.trans ((h t' i).1 h2))]
  rw [show Finset.univ.biUnion K = Finset.univ from by
    ext i
    simp only [Finset.mem_biUnion, Finset.mem_univ, true_and, iff_true]
    exact ⟨of' i, (h _ i).2 rfl⟩]

/-- The rights a device hands to its three neighbours. -/
def barOut (c : Dev nD) : sProp 𝕄 :=
  iprop((freeW 0 0 c ∗ freeW 1 2 c ∗ freeW 2 1 c) ∗ (freeW 0 1 c ∗ freeW 1 0 c ∗ freeW 2 2 c) ∗ (freeW 0 2 c ∗ freeW 1 1 c ∗ freeW 2 0 c))
/-- The halves of slot 0. -/
def ownW (c : Dev nD) (L : Fin 3) (k : Fin 2) : sProp 𝕄 := iprop(∃ f, pW c (regK L k) fullShare f)

theorem split_W (c : Dev nD) (f : S3x8x2x512x256.Idx → Elt F .bf16) :
    (((c : Thread nD τ).loc cc0_scratch0) ↦{fullShare} f : sProp 𝕄)
      ⊢ iprop(bigSepL [0, 1, 2] (fun L => iprop(ownW c L 0 ∗ ownW c L 1)) ∗ barOut c) := by
  rw [split_parts (ℓ := (c : Thread nD τ).loc cc0_scratch0) partW ofW mem_partW f fullShare, bigSep_univ_prod, over_three]
  have h : ∀ L : Fin 3, (bigSep Finset.univ fun t : Fin 5 => (((c : Thread nD τ).loc cc0_scratch0) ↦[partW (L, t)]{fullShare} f : sProp 𝕄))
      ⊢ iprop(ownW c L 0 ∗ ownW c L 1 ∗ freeW L 0 c ∗ freeW L 1 c ∗ freeW L 2 c) := fun L => by
    rw [bigSep_univ_eq_bigSepL [0, 1, 2, 3, 4] (by decide) (by decide)]
    show iprop(pW c (regK L 0) fullShare f ∗ pW c (regK L 1) fullShare f ∗ pW c (regW L 1 2) fullShare f
      ∗ pW c (regW L 2 4) fullShare f ∗ pW c (regW L 4 8) fullShare f) ⊢ _
    unfold ownW freeW
    iintro ⟨H0, H1, H2, H3, H4⟩
    isplitl [H0]; · iexists f; iexact H0
    isplitl [H1]; · iexists f; iexact H1
    isplitl [H2]; · iexists f; iexact H2
    isplitl [H3]; · iexists f; iexact H3
    iexists f; iexact H4
  refine (bigSepL_mono fun L _ => h L).trans ?_
  unfold barOut
  simp only [bigSepL_two, bigSepL_singleton]
  iintro ⟨⟨A0, A1, B0, B1, B2⟩, ⟨C0, C1, D0, D1, D2⟩, ⟨E0, E1, F0, F1, F2⟩⟩
  isplitl [A0 A1 C0 C1 E0 E1]
  · isplitl [A0 A1]
    · isplitl [A0] <;> iassumption
    isplitl [C0 C1]
    · isplitl [C0] <;> iassumption
    isplitl [E0] <;> iassumption
  isplitl [B0 D2 F1]
  · isplitl [B0]; · iexact B0
    isplitl [D2] <;> iassumption
  isplitl [B1 D0 F2]
  · isplitl [B1]; · iexact B1
    isplitl [D0] <;> iassumption
  isplitl [B2]; · iexact B2
  isplitl [D1] <;> iassumption

theorem join_W (c : Dev nD) (f : S3x8x2x512x256.Idx → Elt F .bf16) :
    bigSepL [0, 1, 2] (fun L => pW c (regW L 0 8) fullShare f) ⊢ (((c : Thread nD τ).loc cc0_scratch0) ↦{fullShare} f : sProp 𝕄) := by
  rw [split_parts (ℓ := (c : Thread nD τ).loc cc0_scratch0) (fun L : Fin 3 => regW L 0 8) (fun (i : S3x8x2x512x256.Idx) => (⟨(i 0).val, (i 0).2⟩ : Fin 3)) (fun L (i : S3x8x2x512x256.Idx) => by
    have h1 : (i 1).val < 8 := (i 1).2
    rw [Fin.ext_iff]
    simp only [regW, Finset.mem_filter, Finset.mem_univ, true_and]
    omega) f fullShare, over_three]
  exact BI.Entails.refl _

/-! ## The other buffers -/

theorem split_B (c : Dev nD) (f : S3x512x256.Idx → Elt F .bf16) :
    (((c : Thread nD τ).loc cc0_scratch3) ↦{fullShare} f : sProp 𝕄) = bigSepL [0, 1, 2] fun L => pB c (regB L) fullShare f := by
  rw [split_parts (ℓ := (c : Thread nD τ).loc cc0_scratch3) (fun L : Fin 3 => regB L) (fun (i : S3x512x256.Idx) => (⟨(i 0).val, (i 0).2⟩ : Fin 3)) (fun L (i : S3x512x256.Idx) => by
    rw [Fin.ext_iff]
    simp only [regB, Finset.mem_filter, Finset.mem_univ, true_and]) f fullShare, over_three]
  rfl
theorem split_A (c : Dev nD) (f : S4x128x256.Idx → Elt F .bf16) :
    (((c : Thread nD τ).loc cc0_scratch2) ↦{fullShare} f : sProp 𝕄) = bigSepL [0, 1, 2, 3] fun q => pA c (regA q) fullShare f := by
  rw [split_parts (ℓ := (c : Thread nD τ).loc cc0_scratch2) (fun q : Fin 4 => regA q) (fun (i : S4x128x256.Idx) => (⟨(i 0).val, (i 0).2⟩ : Fin 4)) (fun L (i : S4x128x256.Idx) => by
    rw [Fin.ext_iff]
    simp only [regA, Finset.mem_filter, Finset.mem_univ, true_and]) f fullShare, over_four]
  rfl
theorem split_G (c : Dev nD) (f : S7x4x128x256.Idx → Elt F .bf16) :
    (((c : Thread nD τ).loc cc0_scratch1) ↦{fullShare} f : sProp 𝕄) = bigSep Finset.univ fun x : GC => pG c (regG x.2 x.1) fullShare f := by
  rw [split_parts (ℓ := (c : Thread nD τ).loc cc0_scratch1) (fun x : GC => regG x.2 x.1) (fun (i : S7x4x128x256.Idx) => ((⟨(i 1).val, (i 1).2⟩ : Fin 4), (⟨(i 0).val, (i 0).2⟩ : Fin 7))) (fun x (i : S7x4x128x256.Idx) => by
    obtain ⟨q, a⟩ := x
    rw [Prod.mk.injEq, Fin.ext_iff, Fin.ext_iff]
    simp only [regG, Finset.mem_filter, Finset.mem_univ, true_and]
    exact And.comm) f fullShare]
  rfl

/-- The device's own rows first, then those of each distance. -/
def rowsOf (c : Dev nD) : Unit ⊕ Fin 7 → Dev nD
  | .inl _ => c
  | .inr a => bef a c
theorem rowsOf_bij (c : Dev nD) : Function.Bijective (rowsOf c) := by revert c; decide +kernel

theorem split_O (c : Dev nD) (f : S4096x256.Idx → Elt F .f32) :
    (((c : Thread nD τ).loc cc0_stg7_0) ↦{fullShare} f : sProp 𝕄)
      = iprop(bigSepL [0, 1, 2, 3] (fun q => pO c (regO c q) fullShare f) ∗ bigSepL pairs fun x => pO c (regO (bef x.2 c) x.1) fullShare f) := by
  rw [split_parts (ℓ := (c : Thread nD τ).loc cc0_stg7_0) (fun x : Dev nD × Fin 4 => regO x.1 x.2) (fun (i : S4096x256.Idx) => (devOf i, quOf i)) (fun x (i : S4096x256.Idx) => by
    obtain ⟨e, q⟩ := x
    have h0 : (i 0).val < 4096 := (i 0).2
    have hq := q.2
    constructor
    · intro hi
      obtain ⟨h1, h2⟩ := outAt_reg c e q i hi
      rw [h1, h2]
    · intro h
      have h1 : (i 0).val / 512 = e.val := congrArg (fun z : Dev nD × Fin 4 => z.1.val) h
      have h2 : (i 0).val % 512 / 128 = q.val := congrArg (fun z : Dev nD × Fin 4 => z.2.val) h
      simp only [regO, Finset.mem_filter, Finset.mem_univ, true_and]
      omega) f fullShare, bigSep_univ_prod,
    bigSep_univ_equiv (Equiv.ofBijective _ (rowsOf_bij c)), over_sum, over_unit, over_four]
  rw [← over_pairs, bigSep_univ_prod, over_swap]
  rfl

/-! ## The shares of a quarter of the own result -/

theorem pA_shares (c : Dev nD) (q : Fin 4) :
    pA c (regA q) fullShare (afull m c) ⊣⊢ iprop(bigSepL [0, 1, 2, 3, 4, 5, 6] (fun a => sgPay m c (q, a)) ∗ pA c (regA q) (rem 7) (afull m c)) := by
  have h : ∀ n, pA c (regA q) (rem n) (afull m c) = iprop(pA c (regA q) (shn n) (afull m c) ∗ pA c (regA q) (rem (n + 1)) (afull m c)) := fun n =>
    have hs : pA c (regA q) (rem n) (afull m c) ⊣⊢ iprop(pA c (regA q) (shn n) (afull m c) ∗ pA c (regA q) (rem (n + 1)) (afull m c)) := pointsTo_share (rem_split n)
    Entails.antisymm hs.1 hs.2
  rw [show pA c (regA q) fullShare (afull m c) = pA c (regA q) (rem 0) (afull m c) from rfl, h 0, h 1, h 2, h 3, h 4, h 5, h 6]
  unfold sgPay
  simp only [bigSepL_two, bigSepL_singleton]
  constructor
  · iintro ⟨H0, H1, H2, H3, H4, H5, H6, H7⟩
    isplitr [H7]
    · isplitl [H0]; · iexact H0
      isplitl [H1]; · iexact H1
      isplitl [H2]; · iexact H2
      isplitl [H3]; · iexact H3
      isplitl [H4]; · iexact H4
      isplitl [H5]; · iexact H5
      iexact H6
    iexact H7
  · iintro ⟨⟨H0, H1, H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The rights to write the gather buffers -/

/-- What device `d` holds after `n` phases, and what it keeps in phase `n`. -/
def tkAll (n : ℕ) (d : Dev nD) : sProp 𝕄 := bigSep Finset.univ fun s : Fin 8 => tks n s d
def tkKeep (p : Fin 3) (d : Dev nD) : sProp 𝕄 :=
  bigSep (Finset.univ.filter fun s : Fin 8 => ¬ s.val.testBit p.val = true) fun s => tks (p.val + 1) s d

theorem ownr_give (p : Fin 3) (s : Fin 8) (d : Dev nD) : s.val.testBit p.val = true → ownr (p.val + 1) s (nb p d) = ownr p.val s d := by
  revert p s d; decide +kernel
theorem ownr_keep (p : Fin 3) (s : Fin 8) (d : Dev nD) : ¬ s.val.testBit p.val = true → ownr (p.val + 1) s d = ownr p.val s d := by
  revert p s d; decide +kernel

theorem tk_give (p : Fin 3) (d : Dev nD) : tkAll (F := F) p.val d ⊢ iprop(tkIn p (nb p d) ∗ tkKeep p d) := by
  unfold tkAll
  rw [by_test Finset.univ fun s : Fin 8 => s.val.testBit p.val = true]
  refine sep_mono (Entails.of_eq ?_) (Entails.of_eq ?_)
  · unfold tkIn
    refine bigSep_congr fun s hs => ?_
    unfold tks wr
    rw [ownr_give p s d (Finset.mem_filter.1 hs).2]
  · unfold tkKeep
    refine bigSep_congr fun s hs => ?_
    unfold tks wr
    rw [ownr_keep p s d (Finset.mem_filter.1 hs).2]
theorem tk_take (p : Fin 3) (d : Dev nD) : iprop(tkKeep (F := F) p d ∗ tkIn p d) ⊢ tkAll (p.val + 1) d := by
  unfold tkAll
  rw [by_test Finset.univ fun s : Fin 8 => s.val.testBit p.val = true]
  exact sep_comm.1

theorem tk_start (d : Dev nD) : (bigSep Finset.univ fun x : GC => freeG (F := F) d x) ⊢ tkAll 0 d := by
  have e : ∀ s : Fin 8, tks (F := F) 0 s d = tk d (src 0 d s) := fun s => by
    have h : ownr 0 s d = d := by revert s d; decide +kernel
    unfold tks wr
    rw [h]
    rfl
  unfold tkAll
  rw [bigSep_congr fun s _ => e s]
  refine Entails.of_eq ?_
  have h : ∀ x : GC, freeG (F := F) d x = bigSep Finset.univ fun r => if bef x.2 d = r then freeG d x else iprop(emp) := fun x => by
    simp only [eq_comm (a := bef x.2 d)]
    exact (only_one (bef x.2 d) fun _ => freeG (F := F) d x).symm
  rw [bigSep_congr fun x _ => h x, over_swap]
  exact bigSep_univ_equiv (Equiv.ofBijective _ (src_bij 0 d)) fun r => tk (F := F) d r

theorem tk_end (d : Dev nD) : tkAll (F := F) 3 d ⊢ bigSep Finset.univ fun x : GC => freeG (aft x.2 d) x := by
  have e : ∀ s : Fin 8, tks (F := F) 3 s d = tk (src 0 d s) d := fun s => by
    have h : ownr 3 s d = src 0 d s := by revert s d; decide +kernel
    have h' : wr 3 s d = d := by revert s d; decide +kernel
    unfold tks
    rw [h, h']
  unfold tkAll
  rw [bigSep_congr fun s _ => e s]
  refine Entails.of_eq ?_
  refine (bigSep_univ_equiv (Equiv.ofBijective _ (src_bij 0 d)) fun r => tk (F := F) r d).symm.trans ?_
  unfold tk
  rw [over_swap]
  refine bigSep_congr fun x _ => ?_
  rw [bigSep_congr fun r _ => (by
    have : (bef x.2 r = d) = (r = aft x.2 d) := propext ⟨fun h => by rw [← h, aft_bef], fun h => by rw [h, bef_aft]⟩
    rw [if_congr (iff_of_eq this) rfl rfl] : (if bef x.2 r = d then freeG (F := F) r x else iprop(emp)) = if r = aft x.2 d then freeG r x else iprop(emp))]
  exact only_one (aft x.2 d) fun r => freeG (F := F) r x

end Cert.Gather
-- ==== Proof.Loops.lean ====
/-
The rule for a loop over a list, loads and stores of whole buffers, and the loops of the body.
-/
module

public import proofs.«01_k».proof.Proof.Shares

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI Idealize.SL.RA
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Cell → ℕ) (c : Dev nD)

/-- Running a piece of the body on device `c`. -/
abbrev run {α : Type} (c : Dev nD) (p : Pg F α) (Q : α → sProp 𝕄) : sProp 𝕄 :=
  wp frame (wpE (defs₀ (F := F)) 𝒱₀ (c : Thread nD τ) none) Set.univ p Q

theorem bigSepL_none {α : Type} (Φ : α → sProp 𝕄) : bigSepL [] Φ = iprop(emp) := rfl

theorem run_seqL {α : Type} (f : α → Pg F PUnit) (R : List α → sProp 𝕄) (Pre Post : α → sProp 𝕄)
    (h : ∀ x xs (Kt : PUnit → sProp 𝕄), iprop(ctx m K ∗ R (x :: xs) ∗ Pre x ∗ ((R xs ∗ Post x) -∗ Kt ⟨⟩)) ⊢ run c (f x) Kt) :
    ∀ (l : List α) (Kt : PUnit → sProp 𝕄),
      iprop(ctx m K ∗ R l ∗ bigSepL l Pre ∗ ((R [] ∗ bigSepL l Post) -∗ Kt ⟨⟩)) ⊢ run c (seqL l f) Kt := by
  intro l
  induction l with
  | nil =>
    intro Kt
    show _ ⊢ wp frame _ Set.univ (pure ⟨⟩) Kt
    simp only [Prog.pure_eq_ret]
    iintro ⟨#Hc, HR, -, Hk⟩
    rw [wp_ret]; imodintro
    iapply Hk
    isplitl [HR]; · iexact HR
    rw [bigSepL_none]
    iempintro
  | cons x l ih =>
    intro Kt
    rw [bigSepL_cons']
    show _ ⊢ wp frame _ Set.univ (f x >>= fun _ => seqL l f) Kt
    rw [wp_bind]
    iintro ⟨#Hc, HR, ⟨H1, H2⟩, Hk⟩
    iapply (h x l _)
    isplitr; · iexact Hc
    isplitl [HR]; · iexact HR
    isplitl [H1]; · iexact H1
    iintro ⟨HR, H1⟩
    iapply (ih Kt)
    isplitr; · iexact Hc
    isplitl [HR]; · iexact HR
    isplitl [H2]; · iexact H2
    iintro ⟨HR, H2⟩
    iapply Hk
    isplitl [HR]; · iexact HR
    rw [bigSepL_cons']
    isplitl [H1]; · iexact H1
    iexact H2

/-! ## Loads and stores -/

theorem step_load {s : Shape} {e : EltTy} (b : Memref sig .tc .vmem s e) (r : LoadRect s) (hl : b.view.LoadsAt r)
    (S : Finset (Idx (b.view.loc (c : Thread nD τ)))) (hS : b.view.setOn r.set ⊆ S) (q : PosShare TreeShare)
    (f : Buf (Elt F) (b.view.loc (c : Thread nD τ))) (Kt : (r.shape.Idx → Elt F e) → sProp 𝕄) :
    iprop((b.view.loc (c : Thread nD τ) ↦[S]{q} f) ∗ ((b.view.loc (c : Thread nD τ) ↦[S]{q} f) -∗ Kt (b.view.readAt (Elt F) r f)))
      ⊢ run c (Prog.lift (.load b r hl)) Kt := by
  simp only [Prog.lift]
  iintro ⟨H, Hk⟩
  iapply (wp_load 𝒱₀ (c : Thread nD τ) none Set.univ (m := b) (S := S) hS) $$ H
  iintro H
  rw [wp_ret]; imodintro
  iapply Hk
  iexact H

theorem step_store {s : Shape} {e : EltTy} (b : Memref sig .tc .vmem s e) (r : Rect s) (w : r.shape.Idx → Elt F e) (hx) (hm)
    (S : Finset (Idx ((b.access r).loc (c : Thread nD τ)))) (hS : (b.access r).setOn Finset.univ ⊆ S)
    (g : Buf (Elt F) ((b.access r).loc (c : Thread nD τ)))
    (hg : ∀ f : Buf (Elt F) ((b.access r).loc (c : Thread nD τ)), ∀ i ∈ S, (b.access r).write (Elt F) f w Finset.univ i = g i)
    (Kt : PUnit → sProp 𝕄) :
    iprop((∃ f : Buf (Elt F) ((b.access r).loc (c : Thread nD τ)), (b.access r).loc (c : Thread nD τ) ↦[S]{fullShare} f)
        ∗ (((b.access r).loc (c : Thread nD τ) ↦[S]{fullShare} g) -∗ Kt ⟨⟩))
      ⊢ run c (Prog.lift (.store b r w Finset.univ hx hm)) Kt := by
  simp only [Prog.lift]
  iintro ⟨⟨%f, H⟩, Hk⟩
  iapply (wp_store 𝒱₀ (c : Thread nD τ) none Set.univ (m := b) (r := r) (Mk := Finset.univ) (S := S) hS) $$ H
  iintro H
  rw [wp_ret]; imodintro
  iapply Hk
  ihave H := (Entails.of_eq (pointsTo_congr (g := g) (hg f))) $$ H
  iexact H

/-- A load of the weights goes through the share kept for it. -/
theorem step_readW (L : Fin 3) (k n : ℕ) (hn : n ≤ 3) (r : LoadRect S3x8x2x512x256) (hl) (h : r.set ⊆ regW L 0 (2 ^ k))
    (Kt : (r.shape.Idx → Elt F .bf16) → sProp 𝕄) :
    iprop(ls m L k n c ∗ (ls m L k n c -∗ Kt ((mW).view.readAt (Elt F) r (wfull m c)))) ⊢ run c (Prog.lift (.load mW r hl)) Kt := by
  rw [ls_read m L k n hn c]
  unfold pW
  iintro ⟨⟨H, Hr⟩, Hk⟩
  iapply (step_load c mW r hl (regW L 0 (2 ^ k)) (by
    intro i hi
    obtain ⟨j, hj, rfl⟩ := Finset.mem_map.1 hi
    exact h hj) (rem 3) (wfull m c) Kt)
  isplitl [H]; · iexact H
  iintro H
  iapply Hk
  isplitl [H]; · iexact H
  iexact Hr

/-- Keep a converted weight in its half of slot 0. -/
theorem step_keep (L : Fin 3) (k : Fin 2) (w : Vec F S1x1x1x512x256 .bf16) (hw : w = if k = 0 then k0_pay1 (sI m L c) else k0_pay2 (sO m L c))
    (hl hx hm) (Kt : PUnit → sProp 𝕄) :
    iprop(ownW c L k ∗ (pW c (regK L k) fullShare (wfull m c) -∗ Kt ⟨⟩))
      ⊢ run c (Prog.lift (.load mW (rW1 L 0 k).toLoadRect hl) >>= fun _ => Prog.lift (.store mW (rW1 L 0 k) w Finset.univ hx hm)) Kt := by
  subst hw
  unfold run ownW pW
  rw [wp_bind]
  iintro ⟨⟨%f, H⟩, Hk⟩
  iapply (step_load c mW (rW1 L 0 k).toLoadRect hl (regK L k) (by
    intro i hi
    obtain ⟨j, hj, rfl⟩ := Finset.mem_map.1 hi
    rw [← set_rW1_zero]
    exact hj) fullShare f _)
  isplitl [H]; · iexact H
  iintro H
  iapply (step_store c mW (rW1 L 0 k) _ hx hm (regK L k) (by
    rw [← set_rW1_zero]; exact (View.set_slice_whole cc0_scratch0 (rW1 L 0 k)).subset) (wfull m c) (fun f' i hi => by
    rw [← set_rW1_zero] at hi
    exact store_fill cc0_scratch0 (rW1 L 0 k) f' _ (wfull m c) (fillK m L k c) i hi) Kt)
  isplitl [H]; · iexists f; iexact H
  iexact Hk

theorem step_castIn (L : Fin 3) (b : Memref sig .tc .vmem S256x512 .f32) (f : Buf (Elt F) (b.view.loc (c : Thread nD τ)))
    (hr : ∀ hi, b.view.readAt (Elt F) (Rect.unit (s := S256x512) ![0, 0] S256x512.size hi).toLoadRect f = sI m L c) (Kt : PUnit → sProp 𝕄) :
    iprop((b.view.loc (c : Thread nD τ) ↦[Finset.univ]{fullShare} f) ∗ ownW c L 0
        ∗ (((b.view.loc (c : Thread nD τ) ↦[Finset.univ]{fullShare} f) ∗ pW c (regK L 0) fullShare (wfull m c)) -∗ Kt ⟨⟩))
      ⊢ run c (castIn L b) Kt := by
  unfold run castIn
  rw [wp_bind]
  iintro ⟨H, Ho, Hk⟩
  iapply (step_load c b _ _ Finset.univ (Finset.subset_univ _) fullShare f _)
  isplitl [H]; · iexact H
  iintro H
  iapply (step_keep m c L 0 _ (congrArg k0_pay1 (hr _)) _ _ _ Kt)
  isplitl [Ho]; · iexact Ho
  iintro Ho
  iapply Hk
  isplitl [H]; · iexact H
  iexact Ho

theorem step_castOut (L : Fin 3) (b : Memref sig .tc .vmem S512x256 .f32) (f : Buf (Elt F) (b.view.loc (c : Thread nD τ)))
    (hr : ∀ hi, b.view.readAt (Elt F) (Rect.unit (s := S512x256) ![0, 0] S512x256.size hi).toLoadRect f = sO m L c) (Kt : PUnit → sProp 𝕄) :
    iprop((b.view.loc (c : Thread nD τ) ↦[Finset.univ]{fullShare} f) ∗ ownW c L 1
        ∗ (((b.view.loc (c : Thread nD τ) ↦[Finset.univ]{fullShare} f) ∗ pW c (regK L 1) fullShare (wfull m c)) -∗ Kt ⟨⟩))
      ⊢ run c (castOut L b) Kt := by
  unfold run castOut
  rw [wp_bind]
  iintro ⟨H, Ho, Hk⟩
  iapply (step_load c b _ _ Finset.univ (Finset.subset_univ _) fullShare f _)
  isplitl [H]; · iexact H
  iintro H
  iapply (step_keep m c L 1 _ (congrArg k0_pay2 (hr _)) _ _ _ Kt)
  isplitl [Ho]; · iexact Ho
  iintro Ho
  iapply Hk
  isplitl [H]; · iexact H
  iexact Ho

/-- Store the activations before layer `L`. -/
theorem step_putB (L : Fin 3) (w : Vec F S1x512x256 .bf16) (hw : w = xbAt m L c) (hl hx hm) (Kt : PUnit → sProp 𝕄) :
    iprop((∃ f, pB c (regB L) fullShare f) ∗ (pB c (regB L) fullShare (xbfull m c) -∗ Kt ⟨⟩))
      ⊢ run c (Prog.lift (.load mB (rB L).toLoadRect hl) >>= fun _ => Prog.lift (.store mB (rB L) w Finset.univ hx hm)) Kt := by
  subst hw
  unfold run pB
  rw [wp_bind]
  iintro ⟨⟨%f, H⟩, Hk⟩
  iapply (step_load c mB (rB L).toLoadRect hl (regB L) (by
    intro i hi
    obtain ⟨j, hj, rfl⟩ := Finset.mem_map.1 hi
    rw [← set_rB]
    exact hj) fullShare f _)
  isplitl [H]; · iexact H
  iintro H
  iapply (step_store c mB (rB L) _ hx hm (regB L) (by
    rw [← set_rB]; exact (View.set_slice_whole cc0_scratch3 (rB L)).subset) (xbfull m c) (fun f' i hi => by
    rw [← set_rB] at hi
    exact store_fill cc0_scratch3 (rB L) f' _ (xbfull m c) (fun j => (xbfull_emb m L c j).symm) i hi) Kt)
  isplitl [H]; · iexists f; iexact H
  iexact Hk

theorem step_castX (f : Buf (Elt F) ((mX).view.loc (c : Thread nD τ)))
    (hr : ∀ hi, (mX).view.readAt (Elt F) (Rect.unit (s := S512x256) ![0, 0] S512x256.size hi).toLoadRect f = sX m c) (Kt : PUnit → sProp 𝕄) :
    iprop(((mX).view.loc (c : Thread nD τ) ↦[Finset.univ]{fullShare} f) ∗ (∃ f, pB c (regB 0) fullShare f)
        ∗ ((((mX).view.loc (c : Thread nD τ) ↦[Finset.univ]{fullShare} f) ∗ pB c (regB 0) fullShare (xbfull m c)) -∗ Kt ⟨⟩))
      ⊢ run c castX Kt := by
  unfold run castX
  rw [wp_bind]
  iintro ⟨H, Ho, Hk⟩
  iapply (step_load c mX _ _ Finset.univ (Finset.subset_univ _) fullShare f _)
  isplitl [H]; · iexact H
  iintro H
  iapply (step_putB m c 0 _ (congrArg k0_pay7 (hr _)) _ _ _ Kt)
  isplitl [Ho]; · iexact Ho
  iintro Ho
  iapply Hk
  isplitl [H]; · iexact H
  iexact Ho

theorem step_loadB (L : Fin 3) (Kt : Vec F S1x512x256 .bf16 → sProp 𝕄) :
    iprop(pB c (regB L) fullShare (xbfull m c) ∗ (pB c (regB L) fullShare (xbfull m c) -∗ Kt (xbAt m L c))) ⊢ run c (loadB L) Kt := by
  have e : (mB).view.readAt (Elt F) (rB L).toLoadRect (xbfull m c) = xbAt m L c := funext fun j => xbfull_emb m L c j
  rw [← e]
  unfold run loadB pB
  exact step_load c mB (rB L).toLoadRect _ (regB L) (by
    intro i hi
    obtain ⟨j, hj, rfl⟩ := Finset.mem_map.1 hi
    rw [← set_rB]
    exact hj) fullShare (xbfull m c) Kt

theorem step_storeB (L : Fin 3) (w : FVec F S1x512x256 .bf16) (hw : w = xbAt m L c) (Kt : PUnit → sProp 𝕄) :
    iprop((∃ f, pB c (regB L) fullShare f) ∗ (pB c (regB L) fullShare (xbfull m c) -∗ Kt ⟨⟩)) ⊢ run c (storeB L w) Kt :=
  step_putB m c L w hw _ _ _ Kt

end Cert.Gather
-- ==== Proof.Phases.lean ====
/-
The later loops of the body on one device.
-/
module

public import proofs.«01_k».proof.Proof.Loops

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI Idealize.SL.RA
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Cell → ℕ) (c : Dev nD)
variable (m : (ℓ : Loc nD τ sig) → Buf (Elt F) ℓ)
variable (K : Dev nD × Cell → ℕ) (c : Dev nD)

/-! ## The weight exchanges -/

/-- What device `c` holds of layer `L` after `n` phases. -/
def st (n : ℕ) (L : Fin 3) : sProp 𝕄 := iprop(ls m L n n c ∗ if L = 0 then tkAll n c else iprop(emp))
/-- The same once the copy of phase `p` has started. -/
def stS (p : Fin 3) (L : Fin 3) : sProp 𝕄 := iprop(ls m L p.val (p.val + 1) c ∗ if L = 0 then tkKeep p c else iprop(emp))

theorem st_send (p L : Fin 3) :
    st m c p.val L ⊢ iprop(swPay m c (L, p) ∗ (if L = 0 then tkIn p (nb (L + p) c) else iprop(emp)) ∗ stS m c p L) := by
  unfold st stS
  by_cases hL : L = 0
  · subst hL
    rw [if_pos rfl, if_pos rfl, if_pos rfl, show (0 : Fin 3) + p = p from by revert p; decide]
    refine (BIClass.sep_mono (ls_send m 0 p c) (tk_give p c)).trans ?_
    iintro ⟨⟨H1, H2⟩, H3, H4⟩
    isplitl [H1]; · iexact H1
    isplitl [H3]; · iexact H3
    isplitl [H2]; · iexact H2
    iexact H4
  · rw [if_neg hL, if_neg hL, if_neg hL]
    refine (sep_mono_left (ls_send m L p c)).trans ?_
    iintro ⟨⟨H1, H2⟩, -⟩
    isplitl [H1]; · iexact H1
    isplitr; · iempintro
    isplitl [H2]; · iexact H2
    iempintro

theorem st_recv (p L : Fin 3) : iprop(stS m c p L ∗ rwPay m c (L, p)) ⊢ st m c (p.val + 1) L := by
  unfold st stS rwPay
  dsimp only
  by_cases hL : L = 0
  · subst hL
    rw [if_pos rfl, if_pos rfl, if_pos rfl]
    iintro ⟨⟨H1, H2⟩, H3, H4⟩
    isplitl [H1 H3]
    · iapply (ls_recv m 0 p c)
      isplitl [H1]; · iexact H1
      iexact H3
    iapply (tk_take p c)
    isplitl [H2]; · iexact H2
    iexact H4
  · rw [if_neg hL, if_neg hL, if_neg hL]
    iintro ⟨⟨H1, -⟩, H3, -⟩
    isplitl [H1 H3]
    · iapply (ls_recv m L p c)
      isplitl [H1]; · iexact H1
      iexact H3
    iempintro

/-- What the copy of layer `L` in phase `p` needs besides the weights. -/
def needW (p L : Fin 3) : sProp 𝕄 := iprop((tok c (kRW (L, p), 0) ∗ tok c (kSW (L, p), 0)) ∗ freeW L p (nb (L + p) c))
/-- The right to wait for what phase `p` brings. -/
def awaitW (p L : Fin 3) : sProp 𝕄 := iprop(crd c (kRW (L, p)) (amt (kRW (L, p))) ∗ pos c (kRW (L, p)))
/-- The right to wait until phase `p` has sent. -/
def crdSW (x : WC) : sProp 𝕄 := crd c (kSW x) (amt (kSW x))

/-- The payments of phase `p`. -/
def owW (p : Fin 3) (l : List (Fin 3)) : List Dut := l.map fun L => (kRW (L, p), 0)

theorem run_send (L p : Fin 3) (l : List Dut) (Kt : PUnit → sProp 𝕄) :
    iprop(ctx m K ∗ Ow c ((kRW (L, p), 0) :: l) ∗ needW c p L ∗ st m c p.val L
        ∗ ((Ow c l ∗ crdSW c (L, p) ∗ stS m c p L) -∗ Kt ⟨⟩))
      ⊢ run c (sendW c L p) Kt := by
  unfold needW crdSW
  iintro ⟨#Hc, HO, ⟨⟨Ht, Hs⟩, Hf⟩, Hst, Hk⟩
  ihave Hst := (st_send m c p L) $$ Hst
  icases Hst with ⟨Hw, Htk, Hst⟩
  iapply (step_sendW m K c L p l Kt)
  isplitr; · iexact Hc
  isplitl [HO]; · iexact HO
  isplitl [Ht]; · iexact Ht
  isplitl [Hs]; · iexact Hs
  isplitl [Hw]; · iexact Hw
  isplitl [Hf]; · iexact Hf
  isplitl [Htk]; · iexact Htk
  iintro ⟨HO, Hcr⟩
  iapply Hk
  isplitl [HO]; · iexact HO
  isplitl [Hcr]; · iexact Hcr
  iexact Hst

theorem run_recv (L p : Fin 3) (l : List Dut) (hl : ∀ y ∈ l, 2 + p.val < lvk y.1) (Kt : PUnit → sProp 𝕄) :
    iprop(ctx m K ∗ Ow c l ∗ awaitW c p L ∗ stS m c p L ∗ ((Ow c l ∗ clo c (kRW (L, p)) ∗ st m c (p.val + 1) L) -∗ Kt ⟨⟩))
      ⊢ run c (recvW L p) Kt := by
  unfold awaitW
  iintro ⟨#Hc, HO, ⟨Hcr, Hp⟩, Hst, Hk⟩
  iapply (step_recvW m K c L p l hl Kt)
  isplitr; · iexact Hc
  isplitl [HO]; · iexact HO
  isplitl [Hcr]; · iexact Hcr
  isplitl [Hp]; · iexact Hp
  iintro ⟨HO, Hcl, Hpay⟩
  iapply Hk
  isplitl [HO]; · iexact HO
  isplitl [Hcl]; · iexact Hcl
  iapply (st_recv m c p L)
  isplitl [Hst]; · iexact Hst
  iexact Hpay

theorem run_phase0 (l : List Dut) (Kt : PUnit → sProp 𝕄) :
    iprop(ctx m K ∗ Ow c (owW 0 [0, 1, 2] ++ l) ∗ bigSepL [0, 1, 2] (fun L => iprop(needW c 0 L ∗ st m c 0 L))
        ∗ ((Ow c l ∗ bigSepL [0, 1, 2] (fun L => iprop(crdSW c (L, 0) ∗ stS m c 0 L))) -∗ Kt ⟨⟩))
      ⊢ run c (seqL [0, 1, 2] fun L => sendW c L 0) Kt :=
  run_seqL m K c (fun L => sendW c L 0) (fun xs => Ow c (owW 0 xs ++ l)) _ _ (fun L xs Kt => by
    iintro ⟨#Hc, HO, ⟨H1, H2⟩, Hk⟩
    iapply (run_send m K c L 0 (owW 0 xs ++ l) Kt)
    isplitr; · iexact Hc
    isplitl [HO]; · iexact HO
    isplitl [H1]; · iexact H1
    isplitl [H2]; · iexact H2
    iexact Hk) [0, 1, 2] Kt

theorem run_phase (p : Fin 3) (p' : Fin 3) (hp : p'.val = p.val + 1) (l : List Dut) (hl : ∀ y ∈ l, 2 + p.val < lvk y.1) (Kt : PUnit → sProp 𝕄) :
    iprop(ctx m K ∗ Ow c (owW p' [0, 1, 2] ++ l) ∗ bigSepL [0, 1, 2] (fun L => iprop(awaitW c p L ∗ needW c p' L ∗ stS m c p L))
        ∗ ((Ow c l ∗ bigSepL [0, 1, 2] (fun L => iprop(clo c (kRW (L, p)) ∗ crdSW c (L, p') ∗ stS m c p' L))) -∗ Kt ⟨⟩))
      ⊢ run c (seqL [0, 1, 2] fun L => do { recvW L p; sendW c L p' }) Kt :=
  run_seqL m K c (fun L => do { recvW L p; sendW c L p' }) (fun xs => Ow c (owW p' xs ++ l)) _ _ (fun L xs Kt => by
    unfold run
    rw [wp_bind]
    iintro ⟨#Hc, HO, ⟨H0, H1, H2⟩, Hk⟩
    iapply (run_recv m K c L p (owW p' (L :: xs) ++ l) (fun y hy => by
      rcases List.mem_append.1 hy with h | h
      · obtain ⟨L', -, rfl⟩ := List.mem_map.1 h
        show 2 + p.val < 2 + p'.val
        omega
      · exact hl y h) _)
    isplitr; · iexact Hc
    isplitl [HO]; · iexact HO
    isplitl [H0]; · iexact H0
    isplitl [H2]; · iexact H2
    iintro ⟨HO, Hcl, Hst⟩
    rw [← hp]
    iapply (run_send m K c L p' (owW p' xs ++ l) Kt)
    isplitr; · iexact Hc
    isplitl [HO]; · iexact HO
    isplitl [H1]; · iexact H1
    isplitl [Hst]; · iexact Hst
    iintro ⟨HO, Hcr, Hst⟩
    iapply Hk
    isplitl [HO]; · iexact HO
    isplitl [Hcl]; · iexact Hcl
    isplitl [Hcr]; · iexact Hcr
    iexact Hst) [0, 1, 2] Kt

/-! ## The layers -/

theorem run_layer0 (l : List Dut) (hl : ∀ y ∈ l, 4 < lvk y.1) (Kt : PUnit → sProp 𝕄) :
    iprop(ctx m K ∗ Ow c l ∗ awaitW c 2 0 ∗ stS m c 2 0 ∗ pB c (regB 0) fullShare (xbfull m c) ∗ (∃ f, pB c (regB 1) fullShare f)
        ∗ ((Ow c l ∗ clo c (kRW (0, 2)) ∗ st m c 3 0 ∗ pB c (regB 0) fullShare (xbfull m c) ∗ pB c (regB 1) fullShare (xbfull m c)) -∗ Kt ⟨⟩))
      ⊢ run c layer0 Kt := by
  unfold run layer0
  rw [wp_bind]
  iintro ⟨#Hc, HO, Haw, Hst, HB0, HB1, Hk⟩
  iapply (step_loadB m c 0 _)
  isplitl [HB0]; · iexact HB0
  iintro HB0
  have hs : ∀ (s : Fin 8) (k : Fin 2), s.val < 4 → (rW1 0 s k).toLoadRect.set ⊆ regW 0 0 (2 ^ 2) := fun s k h => by
    refine (show (rW1 0 s k).toLoadRect.set ⊆ regW 0 s.val (s.val + 1) from set_rW1 0 s k).trans ?_
    intro i
    simp only [regW, Finset.mem_filter, Finset.mem_univ, true_and]
    omega
  unfold stS
  icases Hst with ⟨Hls, Htk⟩
  rw [wp_bind]; iapply (step_readW m c 0 2 3 le_rfl (rW1 0 0 0).toLoadRect _ (hs 0 0 (by decide)) _); isplitl [Hls]; iexact Hls; iintro Hls
  rw [wp_bind]; iapply (step_readW m c 0 2 3 le_rfl (rW1 0 0 1).toLoadRect _ (hs 0 1 (by decide)) _); isplitl [Hls]; iexact Hls; iintro Hls
  rw [wp_bind]; iapply (step_readW m c 0 2 3 le_rfl (rW1 0 1 0).toLoadRect _ (hs 1 0 (by decide)) _); isplitl [Hls]; iexact Hls; iintro Hls
  rw [wp_bind]; iapply (step_readW m c 0 2 3 le_rfl (rW1 0 1 1).toLoadRect _ (hs 1 1 (by decide)) _); isplitl [Hls]; iexact Hls; iintro Hls
  rw [wp_bind]; iapply (step_readW m c 0 2 3 le_rfl (rW1 0 2 0).toLoadRect _ (hs 2 0 (by decide)) _); isplitl [Hls]; iexact Hls; iintro Hls
  rw [wp_bind]; iapply (step_readW m c 0 2 3 le_rfl (rW1 0 2 1).toLoadRect _ (hs 2 1 (by decide)) _); isplitl [Hls]; iexact Hls; iintro Hls
  rw [wp_bind]; iapply (step_readW m c 0 2 3 le_rfl (rW1 0 3 0).toLoadRect _ (hs 3 0 (by decide)) _); isplitl [Hls]; iexact Hls; iintro Hls
  rw [wp_bind]; iapply (step_readW m c 0 2 3 le_rfl (rW1 0 3 1).toLoadRect _ (hs 3 1 (by decide)) _); isplitl [Hls]; iexact Hls; iintro Hls
  rw [wp_bind]
  iapply (run_recv m K c 0 2 l hl _)
  isplitr; · iexact Hc
  isplitl [HO]; · iexact HO
  isplitl [Haw]; · iexact Haw
  isplitl [Hls Htk]
  · unfold stS
    isplitl [Hls]; · iexact Hls
    iexact Htk
  unfold st
  iintro ⟨HO, Hcl, Hls, Htk⟩
  have h4 : ∀ k : Fin 2, (rW4 k).toLoadRect.set ⊆ regW 0 0 (2 ^ 3) := fun k => by
    refine (show (rW4 k).toLoadRect.set ⊆ regW 0 4 8 from set_rW4 k).trans ?_
    intro i
    simp only [regW, Finset.mem_filter, Finset.mem_univ, true_and]
    omega
  rw [wp_bind]; iapply (step_readW m c 0 3 3 le_rfl (rW4 0).toLoadRect _ (h4 0) _); isplitl [Hls]; iexact Hls; iintro Hls
  rw [wp_bind]; iapply (step_readW m c 0 3 3 le_rfl (rW4 1).toLoadRect _ (h4 1) _); isplitl [Hls]; iexact Hls; iintro Hls
  iapply (step_storeB m c 1 _ rfl Kt)
  isplitl [HB1]; · iexact HB1
  iintro HB1
  iapply Hk
  isplitl [HO]; · iexact HO
  isplitl [Hcl]; · iexact Hcl
  isplitl [Hls Htk]
  · isplitl [Hls]; · iexact Hls
    iexact Htk
  isplitl [HB0]; · iexact HB0
  iexact HB1

theorem read8 (L : Fin 3) (k : Fin 2) : (rW8 L k).toLoadRect.set ⊆ regW L 0 (2 ^ 3) := set_rW8 L k

theorem run_layer1 (l : List Dut) (hl : ∀ y ∈ l, 4 < lvk y.1) (Kt : PUnit → sProp 𝕄) :
    iprop(ctx m K ∗ Ow c l ∗ awaitW c 2 1 ∗ stS m c 2 1 ∗ pB c (regB 1) fullShare (xbfull m c) ∗ (∃ f, pB c (regB 2) fullShare f)
        ∗ ((Ow c l ∗ clo c (kRW (1, 2)) ∗ st m c 3 1 ∗ pB c (regB 1) fullShare (xbfull m c) ∗ pB c (regB 2) fullShare (xbfull m c)) -∗ Kt ⟨⟩))
      ⊢ run c layer1 Kt := by
  unfold run layer1
  rw [wp_bind]
  iintro ⟨#Hc, HO, Haw, Hst, HB0, HB1, Hk⟩
  iapply (run_recv m K c 1 2 l hl _)
  isplitr; · iexact Hc
  isplitl [HO]; · iexact HO
  isplitl [Haw]; · iexact Haw
  isplitl [Hst]; · iexact Hst
  unfold st
  iintro ⟨HO, Hcl, Hls, Htk⟩
  rw [wp_bind]
  iapply (step_loadB m c 1 _)
  isplitl [HB0]; · iexact HB0
  iintro HB0
  rw [wp_bind]; iapply (step_readW m c 1 3 3 le_rfl (rW8 1 0).toLoadRect _ (read8 1 0) _); isplitl [Hls]; iexact Hls; iintro Hls
  rw [wp_bind]; iapply (step_readW m c 1 3 3 le_rfl (rW8 1 1).toLoadRect _ (read8 1 1) _); isplitl [Hls]; iexact Hls; iintro Hls
  iapply (step_storeB m c 2 _ rfl Kt)
  isplitl [HB1]; · iexact HB1
  iintro HB1
  iapply Hk
  isplitl [HO]; · iexact HO
  isplitl [Hcl]; · iexact Hcl
  isplitl [Hls Htk]
  · isplitl [Hls]; · iexact Hls
    iexact Htk
  isplitl [HB0]; · iexact HB0
  iexact HB1

/-! ## The gather -/

/-- What the copy of a quarter needs besides its contents. -/
def needG (x : GC) : sProp 𝕄 := iprop((tok c (kRG x, 0) ∗ tok c (kSG x, 0)) ∗ freeG (aft x.2 c) x)
def awaitG (x : GC) : sProp 𝕄 := iprop(crd c (kRG x) (amt (kRG x)) ∗ pos c (kRG x))
def crdSG (x : GC) : sProp 𝕄 := crd c (kSG x) (amt (kSG x))
/-- The payments of quarter `q`, and of several. -/
def owG (q : Fin 4) (l : List (Fin 7)) : List Dut := l.map fun a => (kRG (q, a), 0)
def owGs : List (Fin 4) → List Dut
  | [] => []
  | q :: qs => owG q [0, 1, 2, 3, 4, 5, 6] ++ owGs qs

theorem run_seven (q : Fin 4) (l : List Dut) (Kt : PUnit → sProp 𝕄) :
    iprop(ctx m K ∗ Ow c (owG q [0, 1, 2, 3, 4, 5, 6] ++ l) ∗ bigSepL [0, 1, 2, 3, 4, 5, 6] (fun a => iprop(needG c (q, a) ∗ sgPay m c (q, a)))
        ∗ ((Ow c l ∗ bigSepL [0, 1, 2, 3, 4, 5, 6] (fun a => crdSG c (q, a))) -∗ Kt ⟨⟩))
      ⊢ run c (seqL [0, 1, 2, 3, 4, 5, 6] (sendG c q)) Kt :=
  run_seqL m K c (sendG c q) (fun xs => Ow c (owG q xs ++ l)) _ _ (fun a xs Kt => by
    unfold needG crdSG
    iintro ⟨#Hc, HO, ⟨⟨⟨H0, H1⟩, H2⟩, H3⟩, Hk⟩
    iapply (step_sendG m K c q a (owG q xs ++ l) Kt)
    isplitr; · iexact Hc
    isplitl [HO]; · iexact HO
    isplitl [H0]; · iexact H0
    isplitl [H1]; · iexact H1
    isplitl [H3]; · iexact H3
    isplitl [H2]; · iexact H2
    iexact Hk) [0, 1, 2, 3, 4, 5, 6] Kt

/-- Quarter `q` before its turn, and after. -/
def quIn (q : Fin 4) : sProp 𝕄 :=
  iprop((∃ f, pO c (regO c q) fullShare f) ∗ (∃ f, pA c (regA q) fullShare f) ∗ bigSepL [0, 1, 2, 3, 4, 5, 6] fun a => needG c (q, a))
def quOut (q : Fin 4) : sProp 𝕄 :=
  iprop(pO c (regO c q) fullShare (outAt m c) ∗ pA c (regA q) (rem 7) (afull m c) ∗ bigSepL [0, 1, 2, 3, 4, 5, 6] fun a => crdSG c (q, a))

theorem run_quarter (q : Fin 4) (l : List Dut) (Kt : PUnit → sProp 𝕄) :
    iprop(ctx m K ∗ Ow c (owG q [0, 1, 2, 3, 4, 5, 6] ++ l) ∗ pB c (regB 2) fullShare (xbfull m c) ∗ quIn c q
        ∗ ((Ow c l ∗ pB c (regB 2) fullShare (xbfull m c) ∗ quOut m c q) -∗ Kt ⟨⟩))
      ⊢ run c (quarter c (w8 m 2 0 c) (w8 m 2 1 c) q) Kt := by
  unfold run quarter quIn quOut
  rw [wp_bind]
  unfold pB pO
  iintro ⟨#Hc, HO, HB, ⟨⟨%fo, Ho⟩, ⟨%fa, Ha⟩, Hn⟩, Hk⟩
  iapply (step_load c mB (rBq q).toLoadRect _ (regB 2) (by
    intro i hi
    obtain ⟨j, hj, rfl⟩ := Finset.mem_map.1 hi
    exact set_rBq q hj) fullShare (xbfull m c) _)
  isplitl [HB]; · iexact HB
  iintro HB
  rw [wp_bind]
  iapply (step_load c mOut (rOwn c q).toLoadRect _ (regO c q) (by
    intro i hi
    obtain ⟨j, hj, rfl⟩ := Finset.mem_map.1 hi
    rw [← set_rOwn]
    exact hj) fullShare fo _)
  isplitl [Ho]; · iexact Ho
  iintro Ho
  rw [wp_bind]
  iapply (step_store c mOut (rOwn c q) _ _ _ (regO c q) (by
    rw [← set_rOwn]; exact (View.set_slice_whole cc0_stg7_0 (rOwn c q)).subset) (outAt m c) (fun f' i hi => by
    rw [← set_rOwn] at hi
    exact store_fill cc0_stg7_0 (rOwn c q) f' _ (outAt m c) (fun j => fillOwn m c q j) i hi) _)
  isplitl [Ho]; · iexists fo; iexact Ho
  iintro Ho
  unfold pA
  rw [wp_bind]
  iapply (step_load c mA (rA q).toLoadRect _ (regA q) (by
    intro i hi
    obtain ⟨j, hj, rfl⟩ := Finset.mem_map.1 hi
    rw [← set_rA]
    exact hj) fullShare fa _)
  isplitl [Ha]; · iexact Ha
  iintro Ha
  rw [wp_bind]
  iapply (step_store c mA (rA q) _ _ _ (regA q) (by
    rw [← set_rA]; exact (View.set_slice_whole cc0_scratch2 (rA q)).subset) (afull m c) (fun f' i hi => by
    rw [← set_rA] at hi
    exact store_fill cc0_scratch2 (rA q) f' _ (afull m c) (fun j => (afull_emb m q c j).symm) i hi) _)
  isplitl [Ha]; · iexists fa; iexact Ha
  iintro Ha
  ihave Ha := (show (((c : Thread nD τ).loc cc0_scratch2) ↦[regA q]{fullShare} afull m c : sProp 𝕄) ⊢ _ from (pA_shares m c q).1) $$ Ha
  icases Ha with ⟨Hsh, Ha⟩
  iapply (run_seven m K c q l Kt)
  isplitr; · iexact Hc
  isplitl [HO]; · iexact HO
  isplitl [Hn Hsh]
  · iapply (bigSepL_sep [0, 1, 2, 3, 4, 5, 6] (fun a => needG c (q, a)) (fun a => sgPay m c (q, a))).2
    isplitl [Hn]; · iexact Hn
    iexact Hsh
  iintro ⟨HO, Hcr⟩
  iapply Hk
  isplitl [HO]; · iexact HO
  isplitl [HB]; · iexact HB
  isplitl [Ho]; · iexact Ho
  isplitl [Ha]; · unfold pA; iexact Ha
  iexact Hcr

theorem run_quarters (Kt : PUnit → sProp 𝕄) :
    iprop(ctx m K ∗ (Ow c (owGs [0, 1, 2, 3]) ∗ pB c (regB 2) fullShare (xbfull m c)) ∗ bigSepL [0, 1, 2, 3] (quIn c)
        ∗ (((Ow c [] ∗ pB c (regB 2) fullShare (xbfull m c)) ∗ bigSepL [0, 1, 2, 3] (quOut m c)) -∗ Kt ⟨⟩))
      ⊢ run c (seqL [0, 1, 2, 3] (quarter c (w8 m 2 0 c) (w8 m 2 1 c))) Kt :=
  run_seqL m K c (quarter c (w8 m 2 0 c) (w8 m 2 1 c)) (fun xs => iprop(Ow c (owGs xs) ∗ pB c (regB 2) fullShare (xbfull m c))) _ _ (fun q xs Kt => by
    iintro ⟨#Hc, ⟨HO, HB⟩, Hq, Hk⟩
    iapply (run_quarter m K c q (owGs xs) Kt)
    isplitr; · iexact Hc
    isplitl [HO]; · iexact HO
    isplitl [HB]; · iexact HB
    isplitl [Hq]; · iexact Hq
    iintro ⟨HO, HB, Hq⟩
    iapply Hk
    isplitl [HO HB]
    · isplitl [HO]; · iexact HO
      iexact HB
    iexact Hq) [0, 1, 2, 3] Kt

/-- What taking in a quarter needs, and what it leaves. -/
def takeIn (x : GC) : sProp 𝕄 := iprop(awaitG c x ∗ ∃ f, pO c (regO (bef x.2 c) x.1) fullShare f)
def takeOut (x : GC) : sProp 𝕄 := iprop(clo c (kRG x) ∗ pO c (regO (bef x.2 c) x.1) fullShare (outAt m c) ∗ rgPay m c x)

theorem run_take (x : GC) (Kt : PUnit → sProp 𝕄) :
    iprop(ctx m K ∗ Ow c [] ∗ takeIn c x
        ∗ ((Ow c [] ∗ takeOut m c x) -∗ Kt ⟨⟩))
      ⊢ run c (takeG c x) Kt := by
  obtain ⟨q, a⟩ := x
  unfold run takeG takeIn takeOut awaitG
  rw [wp_bind]
  dsimp only
  iintro ⟨#Hc, HO, ⟨⟨Hcr, Hp⟩, ⟨%fo, Ho⟩⟩, Hk⟩
  iapply (step_gotG m K c q a _)
  isplitr; · iexact Hc
  isplitl [HO]; · iexact HO
  isplitl [Hcr]; · iexact Hcr
  isplitl [Hp]; · iexact Hp
  unfold rgPay pG pO
  dsimp only
  iintro ⟨HO, Hcl, Hg⟩
  rw [wp_bind]
  iapply (step_load c mG (rG a q).toLoadRect _ (regG a q) (by
    intro i hi
    obtain ⟨j, hj, rfl⟩ := Finset.mem_map.1 hi
    rw [← set_rG]
    exact hj) fullShare (gfull m c) _)
  isplitl [Hg]; · iexact Hg
  iintro Hg
  rw [wp_bind]
  iapply (step_load c mOut (rGot c a q).toLoadRect _ (regO (bef a c) q) (by
    intro i hi
    obtain ⟨j, hj, rfl⟩ := Finset.mem_map.1 hi
    rw [← set_rGot]
    exact hj) fullShare fo _)
  isplitl [Ho]; · iexact Ho
  iintro Ho
  have eg : (mG).view.readAt (Elt F) (rG a q).toLoadRect (gfull m c) = fun j => ownB m q (bef a c) (ixR j) :=
    funext fun j => gfull_emb m a q c j
  iapply (step_store c mOut (rGot c a q) _ _ _ (regO (bef a c) q) (by
    rw [← set_rGot]; exact (View.set_slice_whole cc0_stg7_0 (rGot c a q)).subset) (outAt m c) (fun f' i hi => by
    rw [← set_rGot] at hi
    exact store_fill cc0_stg7_0 (rGot c a q) f' _ (outAt m c) (fun j => (congrFun (congrArg k0_pay26 eg) j).trans (fillGot m c a q j)) i hi) _)
  isplitl [Ho]; · iexists fo; iexact Ho
  iintro Ho
  iapply Hk
  isplitl [HO]; · iexact HO
  isplitl [Hcl]; · iexact Hcl
  isplitl [Ho]; · iexact Ho
  iexact Hg

theorem run_takes (Kt : PUnit → sProp 𝕄) :
    iprop(ctx m K ∗ Ow c [] ∗ bigSepL pairs (takeIn c)
        ∗ ((Ow c [] ∗ bigSepL pairs (takeOut m c)) -∗ Kt ⟨⟩))
      ⊢ run c (seqL pairs (takeG c)) Kt := by
  refine run_seqL m K c (takeG c) (fun _ => Ow c []) (takeIn c) (takeOut m c) ?_ pairs Kt
  intro x xs Kt
  exact run_take m K c x Kt

def sentIn (x : WC) : sProp 𝕄 := iprop(crdSW c x ∗ pos c (kSW x))
def sentOut (x : WC) : sProp 𝕄 := iprop(clo c (kSW x) ∗ swPay m c x)
theorem run_sentW1 (L p : Fin 3) (Kt : PUnit → sProp 𝕄) :
    iprop(ctx m K ∗ Ow c [] ∗ sentIn c (L, p) ∗ ((Ow c [] ∗ sentOut m c (L, p)) -∗ Kt ⟨⟩)) ⊢ run c (sentW L p) Kt := by
  unfold sentIn sentOut crdSW
  iintro ⟨#Hc, HO, ⟨Hcr, Hp⟩, Hk⟩
  iapply (step_sentW m K c L p Kt)
  isplitr; · iexact Hc
  isplitl [HO]; · iexact HO
  isplitl [Hcr]; · iexact Hcr
  isplitl [Hp]; · iexact Hp
  iexact Hk
theorem run_sentW (Kt : PUnit → sProp 𝕄) :
    iprop(ctx m K ∗ Ow c [] ∗ bigSepL nine (sentIn c) ∗ ((Ow c [] ∗ bigSepL nine (sentOut m c)) -∗ Kt ⟨⟩))
      ⊢ run c (seqL nine fun x => sentW x.1 x.2) Kt := by
  have h := run_seqL m K c (fun x : WC => sentW x.1 x.2) (fun _ => Ow c []) (sentIn c) (sentOut m c)
    (fun x xs Kt => run_sentW1 m K c x.1 x.2 Kt)
  generalize nine = l
  exact h l Kt

def sentGIn (x : GC) : sProp 𝕄 := iprop(crdSG c x ∗ pos c (kSG x))
def sentGOut (x : GC) : sProp 𝕄 := iprop(clo c (kSG x) ∗ sgPay m c x)
theorem run_sentG1 (q : Fin 4) (a : Fin 7) (Kt : PUnit → sProp 𝕄) :
    iprop(ctx m K ∗ Ow c [] ∗ sentGIn c (q, a) ∗ ((Ow c [] ∗ sentGOut m c (q, a)) -∗ Kt ⟨⟩)) ⊢ run c (sentG (q, a)) Kt := by
  unfold sentGIn sentGOut crdSG
  iintro ⟨#Hc, HO, ⟨Hcr, Hp⟩, Hk⟩
  iapply (step_sentG m K c q a Kt)
  isplitr; · iexact Hc
  isplitl [HO]; · iexact HO
  isplitl [Hcr]; · iexact Hcr
  isplitl [Hp]; · iexact Hp
  iexact Hk
theorem run_sentG (Kt : PUnit → sProp 𝕄) :
    iprop(ctx m K ∗ Ow c [] ∗ bigSepL pairs (sentGIn c) ∗ ((Ow c [] ∗ bigSepL pairs (sentGOut m c)) -∗ Kt ⟨⟩))
      ⊢ run c (seqL pairs sentG) Kt := by
  refine run_seqL m K c sentG (fun _ => Ow c []) (sentGIn c) (sentGOut m c) ?_ pairs Kt
  rintro ⟨q, a⟩ xs Kt
  exact run_sentG1 m K c q a Kt

end Cert.Gather
-- ==== Proof.Regroup.lean ====
/-
What the body starts from and ends with on one device, and how the resources are regrouped between its loops.
-/
module

public import proofs.«01_k».proof.Proof.Phases

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI Idealize.SL.RA
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Cell → ℕ) (c : Dev nD)
variable (m : (ℓ : Loc nD τ sig) → Buf (Elt F) ℓ)
variable (K : Dev nD × Cell → ℕ) (c : Dev nD)

/-! ## Cells by phase, layer and quarter -/

theorem three (Φ : Fin 3 → sProp 𝕄) : bigSepL [0, 1, 2] Φ = iprop(Φ 0 ∗ Φ 1 ∗ Φ 2) := rfl

theorem by_layer (Φ : WC → sProp 𝕄) : bigSep Finset.univ Φ = bigSepL [0, 1, 2] fun L => bigSepL [0, 1, 2] fun p => Φ (L, p) := by
  rw [bigSep_univ_prod, over_three]
  exact congrArg _ (funext fun L => over_three _)
theorem by_phase (Φ : WC → sProp 𝕄) :
    bigSep Finset.univ Φ = iprop(bigSepL [0, 1, 2] (fun L => Φ (L, 0)) ∗ bigSepL [0, 1, 2] (fun L => Φ (L, 1)) ∗ bigSepL [0, 1, 2] fun L => Φ (L, 2)) := by
  rw [bigSep_univ_prod, over_swap, over_three, three]
  rw [over_three, over_three, over_three]
theorem by_quarter (Φ : GC → sProp 𝕄) :
    bigSep Finset.univ Φ = bigSepL [0, 1, 2, 3] fun q => bigSepL [0, 1, 2, 3, 4, 5, 6] fun a => Φ (q, a) := by
  rw [bigSep_univ_prod, over_four]
  exact congrArg _ (funext fun q => over_seven _)

/-- Two families side by side, member by member. -/
theorem zipL {α : Type} (l : List α) (Φ Ψ : α → sProp 𝕄) : iprop(bigSepL l Φ ∗ bigSepL l Ψ) ⊢ bigSepL l fun x => iprop(Φ x ∗ Ψ x) :=
  (bigSepL_sep l Φ Ψ).2
theorem unzipL {α : Type} (l : List α) (Φ Ψ : α → sProp 𝕄) : bigSepL l (fun x => iprop(Φ x ∗ Ψ x)) ⊢ iprop(bigSepL l Φ ∗ bigSepL l Ψ) :=
  (bigSepL_sep l Φ Ψ).1

/-- The barrier brings what each phase's copies need. -/
theorem bar_in : iprop(barPay c 0 ∗ barPay c 1 ∗ barPay c 2)
    ⊢ iprop(bigSepL [0, 1, 2] (fun L => freeW (F := F) L 0 (nb (L + 0) c)) ∗ bigSepL [0, 1, 2] (fun L => freeW L 1 (nb (L + 1) c))
      ∗ bigSepL [0, 1, 2] fun L => freeW L 2 (nb (L + 2) c)) := by
  rw [three, three, three]
  show iprop((freeW 0 0 (nb 0 c) ∗ freeW 1 2 (nb 0 c) ∗ freeW 2 1 (nb 0 c)) ∗ (freeW 0 1 (nb 1 c) ∗ freeW 1 0 (nb 1 c) ∗ freeW 2 2 (nb 1 c))
      ∗ (freeW 0 2 (nb 2 c) ∗ freeW 1 1 (nb 2 c) ∗ freeW 2 0 (nb 2 c)))
    ⊢ iprop((freeW 0 0 (nb 0 c) ∗ freeW 1 0 (nb 1 c) ∗ freeW 2 0 (nb 2 c)) ∗ (freeW 0 1 (nb 1 c) ∗ freeW 1 1 (nb 2 c) ∗ freeW 2 1 (nb 0 c))
      ∗ (freeW 0 2 (nb 2 c) ∗ freeW 1 2 (nb 0 c) ∗ freeW 2 2 (nb 1 c)))
  iintro ⟨⟨A0, A1, A2⟩, ⟨B0, B1, B2⟩, ⟨C0, C1, C2⟩⟩
  isplitl [A0 B1 C2]
  · isplitl [A0]; · iexact A0
    isplitl [B1]; · iexact B1
    iexact C2
  isplitl [B0 C1 A2]
  · isplitl [B0]; · iexact B0
    isplitl [C1]; · iexact C1
    iexact A2
  isplitl [C0]; · iexact C0
  isplitl [A1]; · iexact A1
  iexact B2

/-! ## What the body starts from and ends with -/

/-- Every payment, in order. -/
def prog : List Dut :=
  (kBar, 0) :: (kBar, 1) :: (kBar, 2) :: (owW 0 [0, 1, 2] ++ (owW 1 [0, 1, 2] ++ (owW 2 [0, 1, 2] ++ owGs [0, 1, 2, 3])))

theorem owGs_lv (qs : List (Fin 4)) : ∀ y ∈ owGs qs, lvk y.1 = 5 := by
  induction qs with
  | nil => intro y hy; exact absurd hy List.not_mem_nil
  | cons q qs ih =>
    intro y hy
    rcases List.mem_append.1 hy with h | h
    · obtain ⟨a, -, rfl⟩ := List.mem_map.1 h
      rfl
    · exact ih y h
theorem owW_lv (p : Fin 3) (l : List (Fin 3)) : ∀ y ∈ owW p l, lvk y.1 = 2 + p.val := by
  intro y hy
  obtain ⟨L, -, rfl⟩ := List.mem_map.1 hy
  rfl

/-- The seven inputs' staging buffers. -/
def inp : sProp 𝕄 :=
  iprop((((c : Thread nD τ).loc cc0_stg0_0) ↦{fullShare} sX m c) ∗ (((c : Thread nD τ).loc cc0_stg1_0) ↦{fullShare} sI m 0 c)
    ∗ (((c : Thread nD τ).loc cc0_stg2_0) ↦{fullShare} sO m 0 c) ∗ (((c : Thread nD τ).loc cc0_stg3_0) ↦{fullShare} sI m 1 c)
    ∗ (((c : Thread nD τ).loc cc0_stg4_0) ↦{fullShare} sO m 1 c) ∗ (((c : Thread nD τ).loc cc0_stg5_0) ↦{fullShare} sI m 2 c)
    ∗ (((c : Thread nD τ).loc cc0_stg6_0) ↦{fullShare} sO m 2 c))
/-- The four scratch buffers. -/
def scr : sProp 𝕄 :=
  iprop((∃ f : S3x8x2x512x256.Idx → Elt F .bf16, ((c : Thread nD τ).loc cc0_scratch0) ↦{fullShare} f)
    ∗ (∃ f : S7x4x128x256.Idx → Elt F .bf16, ((c : Thread nD τ).loc cc0_scratch1) ↦{fullShare} f)
    ∗ (∃ f : S4x128x256.Idx → Elt F .bf16, ((c : Thread nD τ).loc cc0_scratch2) ↦{fullShare} f)
    ∗ (∃ f : S3x512x256.Idx → Elt F .bf16, ((c : Thread nD τ).loc cc0_scratch3) ↦{fullShare} f))
/-- The rights to pay. -/
def toks : sProp 𝕄 :=
  iprop(bigSepL [0, 1, 2] (fun k => tok c (kBar, k)) ∗ bigSep Finset.univ (fun x : WC => iprop(tok c (kRW x, 0) ∗ tok c (kSW x, 0)))
    ∗ bigSep Finset.univ (fun x : GC => iprop(tok c (kRG x, 0) ∗ tok c (kSG x, 0))))
/-- The rights to wait. -/
def waits : sProp 𝕄 :=
  iprop((crd c kBar 3 ∗ pos c kBar) ∗ bigSep Finset.univ (fun x : WC => awaitW c x.2 x.1) ∗ bigSep Finset.univ (fun x : WC => pos c (kSW x))
    ∗ bigSep Finset.univ (fun x : GC => awaitG c x) ∗ bigSep Finset.univ (fun x : GC => pos c (kSG x)))
/-- All cells done with. -/
def closed : sProp 𝕄 := bigSep Finset.univ (fun k : Cell => clo c k)

def bodyIn : sProp 𝕄 :=
  iprop(Ow c prog ∗ toks c ∗ waits c ∗ inp m c ∗ scr c ∗ ∃ f : S4096x256.Idx → Elt F .f32, ((c : Thread nD τ).loc cc0_stg7_0) ↦{fullShare} f)
def bodyOut : sProp 𝕄 :=
  iprop(Ow c [] ∗ closed c ∗ inp m c ∗ scr c ∗ (((c : Thread nD τ).loc cc0_stg7_0) ↦{fullShare} outAt m c))

/-! ## Regroupings on the way -/

theorem needs_W (p : Fin 3) : iprop(bigSepL [0, 1, 2] (fun L => iprop(tok c (kRW (L, p), 0) ∗ tok c (kSW (L, p), 0)))
      ∗ bigSepL [0, 1, 2] fun L => freeW L p (nb (L + p) c)) ⊢ bigSepL [0, 1, 2] (needW (F := F) c p) := by
  unfold needW
  exact zipL _ _ _

theorem starts_W : iprop(bigSepL [0, 1, 2] (fun L => iprop(pW c (regK L 0) fullShare (wfull m c) ∗ pW c (regK L 1) fullShare (wfull m c)))
      ∗ tkAll 0 c) ⊢ bigSepL [0, 1, 2] (st m c 0) := by
  refine (sep_mono_left (bigSepL_mono fun L _ => ls_start m L c)).trans ?_
  rw [three, three]
  unfold st
  rw [if_pos rfl, if_neg (by decide), if_neg (by decide)]
  iintro ⟨⟨H0, H1, H2⟩, Ht⟩
  isplitl [H0 Ht]
  · isplitl [H0]; · iexact H0
    iexact Ht
  isplitl [H1]
  · isplitl [H1]; · iexact H1
    iempintro
  isplitl [H2]; · iexact H2
  iempintro

theorem quarters_in (fo : S4096x256.Idx → Elt F .f32) (fa : S4x128x256.Idx → Elt F .bf16) :
    iprop(bigSepL [0, 1, 2, 3] (fun q => pO c (regO c q) fullShare fo) ∗ (((c : Thread nD τ).loc cc0_scratch2) ↦{fullShare} fa)
      ∗ bigSep Finset.univ (fun x : GC => iprop(tok c (kRG x, 0) ∗ tok c (kSG x, 0))) ∗ tkAll 3 c) ⊢ bigSepL [0, 1, 2, 3] (quIn (F := F) c) := by
  have hn : iprop(bigSep Finset.univ (fun x : GC => iprop(tok c (kRG x, 0) ∗ tok c (kSG x, 0))) ∗ tkAll 3 c)
      ⊢ bigSepL [0, 1, 2, 3] fun q => bigSepL [0, 1, 2, 3, 4, 5, 6] fun a => needG (F := F) c (q, a) := by
    refine (sep_mono_right (tk_end c)).trans ?_
    rw [← bigSep_sep', ← by_quarter]
    exact bigSep_mono fun x _ => by unfold needG; exact BI.Entails.refl _
  rw [split_A]
  have h : iprop(bigSepL [0, 1, 2, 3] (fun q => pO c (regO c q) fullShare fo) ∗ bigSepL [0, 1, 2, 3] (fun q => pA c (regA q) fullShare fa)
      ∗ bigSepL [0, 1, 2, 3] fun q => bigSepL [0, 1, 2, 3, 4, 5, 6] fun a => needG (F := F) c (q, a)) ⊢ bigSepL [0, 1, 2, 3] (quIn (F := F) c) := by
    refine (sep_mono_right (zipL _ _ _)).trans ((zipL _ _ _).trans (bigSepL_mono fun q _ => ?_))
    unfold quIn
    iintro ⟨H0, H1, H2⟩
    isplitl [H0]; · iexists fo; iexact H0
    isplitl [H1]; · iexists fa; iexact H1
    iexact H2
  exact (sep_mono_right (sep_mono_right hn)).trans h

theorem quarters_out : bigSepL [0, 1, 2, 3] (quOut m c)
    ⊢ iprop(bigSepL [0, 1, 2, 3] (fun q => pO c (regO c q) fullShare (outAt m c)) ∗ bigSepL [0, 1, 2, 3] (fun q => pA c (regA q) (rem 7) (afull m c))
      ∗ bigSep Finset.univ (crdSG (F := F) c)) := by
  rw [by_quarter (crdSG c)]
  unfold quOut
  exact (unzipL _ _ _).trans (sep_mono_right (unzipL _ _ _))

theorem takes_in (fo : S4096x256.Idx → Elt F .f32) :
    iprop(bigSep Finset.univ (awaitG (F := F) c) ∗ bigSepL pairs (fun x => pO c (regO (bef x.2 c) x.1) fullShare fo)) ⊢ bigSepL pairs (takeIn (F := F) c) := by
  rw [over_pairs (awaitG c)]
  refine (zipL _ _ _).trans (bigSepL_mono fun x _ => ?_)
  unfold takeIn
  iintro ⟨H0, H1⟩
  isplitl [H0]; · iexact H0
  iexists fo; iexact H1

theorem takes_out : bigSepL pairs (takeOut m c)
    ⊢ iprop(bigSep Finset.univ (fun x : GC => clo c (kRG x)) ∗ bigSepL pairs (fun x => pO c (regO (bef x.2 c) x.1) fullShare (outAt m c))
      ∗ (((c : Thread nD τ).loc cc0_scratch1) ↦{fullShare} gfull m c)) := by
  rw [split_G, over_pairs, over_pairs]
  unfold takeOut rgPay
  exact (unzipL _ _ _).trans (sep_mono_right (unzipL _ _ _))

theorem sentW_in : iprop((bigSepL [0, 1, 2] (fun L => crdSW c (L, 0)) ∗ bigSepL [0, 1, 2] (fun L => crdSW c (L, 1)) ∗ bigSepL [0, 1, 2] (fun L => crdSW c (L, 2)))
      ∗ bigSep Finset.univ (fun x : WC => pos c (kSW x))) ⊢ bigSepL nine (sentIn (F := F) c) := by
  rw [← by_phase (crdSW c), ← bigSep_sep', ← over_nine]
  exact bigSep_mono fun x _ => by unfold sentIn; exact BI.Entails.refl _

theorem sentW_out : iprop(bigSepL nine (sentOut m c) ∗ bigSepL [0, 1, 2] (fun L => ls m L 3 3 c))
    ⊢ iprop(bigSep Finset.univ (fun x : WC => clo c (kSW x)) ∗ (((c : Thread nD τ).loc cc0_scratch0) ↦{fullShare} wfull m c)) := by
  have h : bigSepL nine (sentOut m c) ⊢ iprop(bigSep Finset.univ (fun x : WC => clo c (kSW x)) ∗ bigSep Finset.univ (swPay m c)) := by
    rw [← over_nine, ← bigSep_sep']
    exact bigSep_mono fun x _ => by unfold sentOut; exact BI.Entails.refl _
  refine (sep_mono_left h).trans ?_
  rw [by_layer (swPay m c)]
  have h2 : iprop(bigSepL [0, 1, 2] (fun L => ls m L 3 3 c) ∗ bigSepL [0, 1, 2] fun L => bigSepL [0, 1, 2] fun p => swPay m c (L, p))
      ⊢ (((c : Thread nD τ).loc cc0_scratch0) ↦{fullShare} wfull m c : sProp 𝕄) :=
    (zipL _ _ _).trans ((bigSepL_mono fun L _ => (sep_mono_right (Entails.of_eq (three _))).trans (ls_end m L c)).trans (join_W c (wfull m c)))
  iintro ⟨⟨H0, H1⟩, H2⟩
  isplitl [H0]; · iexact H0
  iapply h2
  isplitl [H2]; · iexact H2
  iexact H1

theorem sentG_in : iprop(bigSep Finset.univ (crdSG (F := F) c) ∗ bigSep Finset.univ (fun x : GC => pos c (kSG x))) ⊢ bigSepL pairs (sentGIn (F := F) c) := by
  rw [← bigSep_sep', ← over_pairs]
  exact bigSep_mono fun x _ => by unfold sentGIn; exact BI.Entails.refl _

theorem sentG_out : iprop(bigSepL pairs (sentGOut m c) ∗ bigSepL [0, 1, 2, 3] (fun q => pA c (regA q) (rem 7) (afull m c)))
    ⊢ iprop(bigSep Finset.univ (fun x : GC => clo c (kSG x)) ∗ (((c : Thread nD τ).loc cc0_scratch2) ↦{fullShare} afull m c)) := by
  have h : bigSepL pairs (sentGOut m c) ⊢ iprop(bigSep Finset.univ (fun x : GC => clo c (kSG x)) ∗ bigSep Finset.univ (sgPay m c)) := by
    rw [← over_pairs, ← bigSep_sep']
    exact bigSep_mono fun x _ => by unfold sentGOut; exact BI.Entails.refl _
  refine (sep_mono_left h).trans ?_
  rw [by_quarter (sgPay m c), split_A]
  have h2 : iprop((bigSepL [0, 1, 2, 3] fun q => bigSepL [0, 1, 2, 3, 4, 5, 6] fun a => sgPay m c (q, a)) ∗ bigSepL [0, 1, 2, 3] (fun q => pA c (regA q) (rem 7) (afull m c)))
      ⊢ bigSepL [0, 1, 2, 3] fun q => pA c (regA q) fullShare (afull m c) :=
    (zipL _ _ _).trans (bigSepL_mono fun q _ => (pA_shares m c q).2)
  iintro ⟨⟨H0, H1⟩, H2⟩
  isplitl [H0]; · iexact H0
  iapply h2
  isplitl [H1]; · iexact H1
  iexact H2

theorem closed_eq : closed (F := F) c = iprop(clo c kBar ∗ (bigSep Finset.univ (fun x : WC => clo c (kRW x)) ∗ bigSep Finset.univ (fun x : WC => clo c (kSW x)))
    ∗ bigSep Finset.univ (fun x : GC => clo c (kRG x)) ∗ bigSep Finset.univ (fun x : GC => clo c (kSG x))) := by
  unfold closed
  rw [over_sum, over_unit, over_sum, over_sum, over_sum]

end Cert.Gather
-- ==== Proof.BodyEq.lean ====
/-
The printed body and the body with loops are the same program: effect by effect, each is the same by computation.
-/
module

public import proofs.«01_k».proof.Proof.Model

@[expose] public section

noncomputable section

namespace Cert.Gather

open Cert.KernelIdeal Cert.KernelIdeal.Gen
open Idealize.ShloMosaic
open Idealize.ShloMosaic.TcCoe
open Idealize.SL Idealize.SL.Sem

variable {F : FTy → Type} [FloatOps F]

theorem op_congr {α β : Type} {E : Type → Type} {e e' : E β} {k k' : β → Prog E α} (h : e = e') (hk : ∀ v, k v = k' v) :
    Prog.op e k = Prog.op e' k' := by rw [h, funext hk]

/-- The printed body at the buffers of its launch. -/
def printed : Pg F PUnit :=
  cc0_body mX (Memref.isWhole_whole _) mI0 (Memref.isWhole_whole _) mO0 (Memref.isWhole_whole _) mI1 (Memref.isWhole_whole _)
    mO1 (Memref.isWhole_whole _) mI2 (Memref.isWhole_whole _) mO2 (Memref.isWhole_whole _) mOut (Memref.isWhole_whole _)
    mW hW mG hG mA hA mB hB cc0_scratch4 cc0_scratch5 cc0_scratch6 cc0_scratch7

theorem bodyAt_printed (t : Fin cfg0.N) : bodyAt0 (F := F) t = printed := by
  obtain rfl := fin_N0 t
  rfl

set_option maxRecDepth 100000 in
set_option maxHeartbeats 4000000 in
theorem printed_model : printed (F := F) = model := by
  repeat (refine op_congr rfl fun v => ?_)
  rfl

theorem body_eq (t : Fin cfg0.N) : bodyAt0 (F := F) t = model := (bodyAt_printed t).trans printed_model

end Cert.Gather
-- ==== Proof.Body.lean ====
/-
The whole run of the body on one device.
-/
module

public import proofs.«01_k».proof.Proof.Regroup
public import proofs.«01_k».proof.Proof.BodyEq

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI Idealize.SL.RA
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Cell → ℕ) (c : Dev nD)
variable (m : (ℓ : Loc nD τ sig) → Buf (Elt F) ℓ)
variable (K : Dev nD × Cell → ℕ) (c : Dev nD)

/-- Reading a whole buffer gives what it holds. -/
theorem readX (f : S512x256.Idx → Elt F .f32) (hi) :
    (mX).view.readAt (Elt F) (Rect.unit (s := S512x256) ![0, 0] S512x256.size hi).toLoadRect f = f := by
  funext j
  show f ((Rect.unit (s := S512x256) ![0, 0] S512x256.size hi).emb j) = f j
  congr 1
  funext a
  apply Fin.ext
  fin_cases a
  · show 0 + 1 * (j 0).val = (j 0).val; omega
  · show 0 + 1 * (j 1).val = (j 1).val; omega
theorem readI (f : S256x512.Idx → Elt F .f32) (hi) :
    (mI0).view.readAt (Elt F) (Rect.unit (s := S256x512) ![0, 0] S256x512.size hi).toLoadRect f = f := by
  funext j
  show f ((Rect.unit (s := S256x512) ![0, 0] S256x512.size hi).emb j) = f j
  congr 1
  funext a
  apply Fin.ext
  fin_cases a
  · show 0 + 1 * (j 0).val = (j 0).val; omega
  · show 0 + 1 * (j 1).val = (j 1).val; omega

set_option maxHeartbeats 4000000 in
/-- The whole run on one device. -/
theorem run_model (Kt : PUnit → sProp 𝕄) :
    iprop(ctx m K ∗ bodyIn m c ∗ (bodyOut m c -∗ Kt ⟨⟩)) ⊢ run c model Kt := by
  unfold run model bodyIn toks waits inp scr prog
  rw [wp_bind]
  iintro ⟨#Hc, ⟨HO, ⟨Htb, Htw, Htg⟩, ⟨⟨Hcb, Hpb⟩, Haw, Hpw, Hag, Hpg⟩, ⟨X0, X1, X2, X3, X4, X5, X6⟩, ⟨⟨%fw, HW⟩, ⟨%fg, HG⟩, ⟨%fa, HA⟩, ⟨%fb, HB⟩⟩, ⟨%fo, HOut⟩⟩, Hk⟩
  ihave HW := (split_W c fw) $$ HW
  icases HW with ⟨Hown, Hout⟩
  ihave Hown := (Entails.of_eq (three _)) $$ Hown
  icases Hown with ⟨⟨W00, W01⟩, ⟨W10, W11⟩, ⟨W20, W21⟩⟩
  unfold barOut
  icases Hout with ⟨⟨F00, F12, F21⟩, ⟨F01, F10, F22⟩, ⟨F02, F11, F20⟩⟩
  ihave HB := (Entails.of_eq ((split_B c fb).trans (three _))) $$ HB
  icases HB with ⟨B0, B1, B2⟩
  ihave HOut := (Entails.of_eq (split_O c fo)) $$ HOut
  icases HOut with ⟨Hoo, Hog⟩
  ihave HG := ((Entails.of_eq (split_G c fg)).trans ((bigSep_mono fun x _ => (show pG c (regG x.2 x.1) fullShare fg ⊢ freeG (F := F) c x from by
    unfold freeG; iintro H; iexists fg; iexact H)).trans (tk_start c))) $$ HG
  ihave Htb := (Entails.of_eq (three _)) $$ Htb
  icases Htb with ⟨T0, T1, T2⟩
  ihave Htw := (Entails.of_eq (by_phase _)) $$ Htw
  icases Htw with ⟨Tw0, Tw1, Tw2⟩
  ihave Haw := (Entails.of_eq (by_phase _)) $$ Haw
  icases Haw with ⟨Aw0, Aw1, Aw2⟩
  simp only [Prog.lift]
  rw [wp_deviceId, wp_ret]; imodintro
  -- the barrier's signals
  rw [wp_bind]; iapply (step_sig m K c 0 _ (dev1_eq c) _ _)
  isplitr; · iexact Hc
  isplitl [HO]; · iexact HO
  isplitl [T0]; · iexact T0
  isplitl [F00]; · iexact F00
  isplitl [F12]; · iexact F12
  isplitl [F21]; · iexact F21
  iintro HO
  rw [wp_bind]; iapply (step_sig m K c 1 _ (dev2_eq c) _ _)
  isplitr; · iexact Hc
  isplitl [HO]; · iexact HO
  isplitl [T1]; · iexact T1
  isplitl [F01]; · iexact F01
  isplitl [F10]; · iexact F10
  isplitl [F22]; · iexact F22
  iintro HO
  rw [wp_bind]; iapply (step_sig m K c 2 _ (dev3_eq c) _ _)
  isplitr; · iexact Hc
  isplitl [HO]; · iexact HO
  isplitl [T2]; · iexact T2
  isplitl [F02]; · iexact F02
  isplitl [F11]; · iexact F11
  isplitl [F20]; · iexact F20
  iintro HO
  -- the conversions
  rw [wp_bind]; iapply (step_castIn m c 0 mI0 (sI m 0 c) (fun hi => readI _ hi) _)
  isplitl [X1]; · iexact X1
  isplitl [W00]; · iexact W00
  iintro ⟨X1, W00⟩
  rw [wp_bind]; iapply (step_castOut m c 0 mO0 (sO m 0 c) (fun hi => readX _ hi) _)
  isplitl [X2]; · iexact X2
  isplitl [W01]; · iexact W01
  iintro ⟨X2, W01⟩
  rw [wp_bind]; iapply (step_castIn m c 1 mI1 (sI m 1 c) (fun hi => readI _ hi) _)
  isplitl [X3]; · iexact X3
  isplitl [W10]; · iexact W10
  iintro ⟨X3, W10⟩
  rw [wp_bind]; iapply (step_castOut m c 1 mO1 (sO m 1 c) (fun hi => readX _ hi) _)
  isplitl [X4]; · iexact X4
  isplitl [W11]; · iexact W11
  iintro ⟨X4, W11⟩
  rw [wp_bind]; iapply (step_castIn m c 2 mI2 (sI m 2 c) (fun hi => readI _ hi) _)
  isplitl [X5]; · iexact X5
  isplitl [W20]; · iexact W20
  iintro ⟨X5, W20⟩
  rw [wp_bind]; iapply (step_castOut m c 2 mO2 (sO m 2 c) (fun hi => readX _ hi) _)
  isplitl [X6]; · iexact X6
  isplitl [W21]; · iexact W21
  iintro ⟨X6, W21⟩
  rw [wp_bind]; iapply (step_castX m c (sX m c) (fun hi => readX _ hi) _)
  isplitl [X0]; · iexact X0
  isplitl [B0]; · iexists fb; iexact B0
  iintro ⟨X0, B0⟩
  -- the barrier
  rw [wp_bind]; iapply (step_bar m K c _ (fun y hy => by
    rcases List.mem_append.1 hy with h | hy
    · rw [owW_lv 0 [0, 1, 2] y h]; decide
    rcases List.mem_append.1 hy with h | hy
    · rw [owW_lv 1 [0, 1, 2] y h]; decide
    rcases List.mem_append.1 hy with h | hy
    · rw [owW_lv 2 [0, 1, 2] y h]; decide
    rw [owGs_lv [0, 1, 2, 3] y hy]; decide) _)
  isplitr; · iexact Hc
  isplitl [HO]; · iexact HO
  isplitl [Hcb]; · iexact Hcb
  isplitl [Hpb]; · iexact Hpb
  iintro ⟨HO, Hclb, Hbar⟩
  ihave Hbar := (bar_in c) $$ Hbar
  icases Hbar with ⟨N0, N1, N2⟩
  ihave N0 := (needs_W c 0) $$ [Tw0 N0]
  · isplitl [Tw0]; · iexact Tw0
    iexact N0
  ihave N1 := (needs_W c 1) $$ [Tw1 N1]
  · isplitl [Tw1]; · iexact Tw1
    iexact N1
  ihave N2 := (needs_W c 2) $$ [Tw2 N2]
  · isplitl [Tw2]; · iexact Tw2
    iexact N2
  ihave Hst := (starts_W m c) $$ [W00 W01 W10 W11 W20 W21 HG]
  · isplitr [HG]
    · rw [three]
      isplitl [W00 W01]
      · isplitl [W00]; · iexact W00
        iexact W01
      isplitl [W10 W11]
      · isplitl [W10]; · iexact W10
        iexact W11
      isplitl [W20]; · iexact W20
      iexact W21
    iexact HG
  -- the exchanges
  rw [wp_bind]; iapply (run_phase0 m K c _ _)
  isplitr; · iexact Hc
  isplitl [HO]; · iexact HO
  isplitl [N0 Hst]
  · iapply (zipL [0, 1, 2] (needW c 0) (st m c 0))
    isplitl [N0]; · iexact N0
    iexact Hst
  iintro ⟨HO, H⟩
  ihave H := (unzipL _ _ _) $$ H
  icases H with ⟨C0, Hst⟩
  rw [wp_bind]; iapply (run_phase m K c 0 1 rfl _ (fun y hy => by
    rcases List.mem_append.1 hy with h | hy
    · rw [owW_lv 2 [0, 1, 2] y h]; decide
    rw [owGs_lv [0, 1, 2, 3] y hy]; decide) _)
  isplitr; · iexact Hc
  isplitl [HO]; · iexact HO
  isplitl [Aw0 N1 Hst]
  · iapply (zipL [0, 1, 2] (awaitW c 0) (fun L => iprop(needW c 1 L ∗ stS m c 0 L)))
    isplitl [Aw0]; · iexact Aw0
    iapply (zipL [0, 1, 2] (needW c 1) (stS m c 0))
    isplitl [N1]; · iexact N1
    iexact Hst
  iintro ⟨HO, H⟩
  ihave H := (unzipL _ _ _) $$ H
  icases H with ⟨Z0, H⟩
  ihave H := (unzipL _ _ _) $$ H
  icases H with ⟨C1, Hst⟩
  rw [wp_bind]; iapply (run_phase m K c 1 2 rfl _ (fun y hy => by rw [owGs_lv [0, 1, 2, 3] y hy]; decide) _)
  isplitr; · iexact Hc
  isplitl [HO]; · iexact HO
  isplitl [Aw1 N2 Hst]
  · iapply (zipL [0, 1, 2] (awaitW c 1) (fun L => iprop(needW c 2 L ∗ stS m c 1 L)))
    isplitl [Aw1]; · iexact Aw1
    iapply (zipL [0, 1, 2] (needW c 2) (stS m c 1))
    isplitl [N2]; · iexact N2
    iexact Hst
  iintro ⟨HO, H⟩
  ihave H := (unzipL _ _ _) $$ H
  icases H with ⟨Z1, H⟩
  ihave H := (unzipL _ _ _) $$ H
  icases H with ⟨C2, Hst⟩
  ihave Hst := (Entails.of_eq (three _)) $$ Hst
  icases Hst with ⟨S0, S1, S2⟩
  ihave Aw2 := (Entails.of_eq (three _)) $$ Aw2
  icases Aw2 with ⟨D0, D1, D2⟩
  -- the layers
  rw [wp_bind]; iapply (run_layer0 m K c _ (fun y hy => by rw [owGs_lv [0, 1, 2, 3] y hy]; decide) _)
  isplitr; · iexact Hc
  isplitl [HO]; · iexact HO
  isplitl [D0]; · iexact D0
  isplitl [S0]; · iexact S0
  isplitl [B0]; · iexact B0
  isplitl [B1]; · iexists fb; iexact B1
  iintro ⟨HO, Z20, S0, B0, B1⟩
  rw [wp_bind]; iapply (run_layer1 m K c _ (fun y hy => by rw [owGs_lv [0, 1, 2, 3] y hy]; decide) _)
  isplitr; · iexact Hc
  isplitl [HO]; · iexact HO
  isplitl [D1]; · iexact D1
  isplitl [S1]; · iexact S1
  isplitl [B1]; · iexact B1
  isplitl [B2]; · iexists fb; iexact B2
  iintro ⟨HO, Z21, S1, B1, B2⟩
  rw [wp_bind]; iapply (run_recv m K c 2 2 _ (fun y hy => by rw [owGs_lv [0, 1, 2, 3] y hy]; decide) _)
  isplitr; · iexact Hc
  isplitl [HO]; · iexact HO
  isplitl [D2]; · iexact D2
  isplitl [S2]; · iexact S2
  iintro ⟨HO, Z22, S2⟩
  unfold st
  icases S0 with ⟨S0, Htk⟩
  ihave Htk := (Entails.of_eq (if_pos (rfl : (0 : Fin 3) = 0))) $$ Htk
  icases S1 with ⟨S1, -⟩
  icases S2 with ⟨S2, -⟩
  rw [wp_bind]; iapply (step_readW m c 2 3 3 le_rfl (rW8 2 0).toLoadRect _ (read8 2 0) _); isplitl [S2]; iexact S2; iintro S2
  rw [wp_bind]; iapply (step_readW m c 2 3 3 le_rfl (rW8 2 1).toLoadRect _ (read8 2 1) _); isplitl [S2]; iexact S2; iintro S2
  -- the gather
  rw [wp_bind]; iapply (run_quarters m K c _)
  isplitr; · iexact Hc
  isplitl [HO B2]
  · isplitl [HO]; · iexact HO
    iexact B2
  isplitl [Hoo HA Htg Htk]
  · iapply (quarters_in c fo fa)
    isplitl [Hoo]; · iexact Hoo
    isplitl [HA]; · iexact HA
    isplitl [Htg]; · iexact Htg
    iexact Htk
  iintro ⟨⟨HO, B2⟩, H⟩
  ihave H := (quarters_out m c) $$ H
  icases H with ⟨Hoo, HA, Csg⟩
  rw [wp_bind]; iapply (run_takes m K c _)
  isplitr; · iexact Hc
  isplitl [HO]; · iexact HO
  isplitl [Hag Hog]
  · iapply (takes_in c fo)
    isplitl [Hag]; · iexact Hag
    iexact Hog
  iintro ⟨HO, H⟩
  ihave H := (takes_out m c) $$ H
  icases H with ⟨Zrg, Hog, HG⟩
  rw [wp_bind]; iapply (run_sentW m K c _)
  isplitr; · iexact Hc
  isplitl [HO]; · iexact HO
  isplitl [C0 C1 C2 Hpw]
  · iapply (sentW_in c)
    isplitr [Hpw]
    · isplitl [C0]; · iexact C0
      isplitl [C1]; · iexact C1
      iexact C2
    iexact Hpw
  iintro ⟨HO, H⟩
  ihave H := (sentW_out m c) $$ [H S0 S1 S2]
  · isplitl [H]; · iexact H
    rw [three]
    isplitl [S0]; · iexact S0
    isplitl [S1]; · iexact S1
    iexact S2
  icases H with ⟨Zsw, HW⟩
  iapply (run_sentG m K c _)
  isplitr; · iexact Hc
  isplitl [HO]; · iexact HO
  isplitl [Csg Hpg]
  · iapply (sentG_in c)
    isplitl [Csg]; · iexact Csg
    iexact Hpg
  iintro ⟨HO, H⟩
  ihave H := (sentG_out m c) $$ [H HA]
  · isplitl [H]; · iexact H
    iexact HA
  icases H with ⟨Zsg, HA⟩
  iapply Hk
  unfold bodyOut
  isplitl [HO]; · iexact HO
  isplitl [Hclb Z0 Z1 Z20 Z21 Z22 Zsw Zrg Zsg]
  · rw [closed_eq]
    isplitl [Hclb]; · iexact Hclb
    isplitl [Z0 Z1 Z20 Z21 Z22 Zsw]
    · isplitr [Zsw]
      · rw [by_phase]
        isplitl [Z0]; · iexact Z0
        isplitl [Z1]; · iexact Z1
        rw [three]
        isplitl [Z20]; · iexact Z20
        isplitl [Z21]; · iexact Z21
        iexact Z22
      iexact Zsw
    isplitl [Zrg]; · iexact Zrg
    iexact Zsg
  isplitl [X0 X1 X2 X3 X4 X5 X6]
  · unfold inp
    isplitl [X0]; · iexact X0
    isplitl [X1]; · iexact X1
    isplitl [X2]; · iexact X2
    isplitl [X3]; · iexact X3
    isplitl [X4]; · iexact X4
    isplitl [X5]; · iexact X5
    iexact X6
  isplitl [HW HG HA B0 B1 B2]
  · unfold scr
    isplitl [HW]; · iexists wfull m c; iexact HW
    isplitl [HG]; · iexists gfull m c; iexact HG
    isplitl [HA]; · iexists afull m c; iexact HA
    iexists xbfull m c
    rw [split_B, three]
    isplitl [B0]; · iexact B0
    isplitl [B1]; · iexact B1
    iexact B2
  rw [split_O]
  isplitl [Hoo]; · iexact Hoo
  iexact Hog

end Cert.Gather
-- ==== Proof.Deal.lean ====
/-
What the launch deals the devices: every cell's record and position, the rights to pay dealt to the devices that pay,
and the rights to wait.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI Idealize.SL.RA
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch element -/

theorem ownSemFacts : Pipeline.OwnSemFacts cfg0.spec osem := by decide +kernel

def allCells : Finset (GSem nD τ sig) := Finset.univ.map ⟨kcell, kcell_inj⟩

abbrev tokOf (x : Dev nD × Dut) : GSem nD τ sig × ℕ × Fin 3 := (kcell (x.1, x.2.1), 0, x.2.2)
theorem tokOf_inj : Function.Injective tokOf := by
  rintro ⟨c, k, j⟩ ⟨c', k', j'⟩ h
  have h1 : (c, k) = (c', k') := kcell_inj (congrArg Prod.fst h)
  have h2 : j = j' := congrArg (fun x : GSem nD τ sig × ℕ × Fin 3 => x.2.2) h
  obtain ⟨rfl, rfl⟩ := Prod.mk.inj h1
  rw [h2]
def allToks : Finset (GSem nD τ sig × ℕ × Fin 3) := Finset.univ.map ⟨tokOf, tokOf_inj⟩

def u₀ : UU :=
  (initOf (Pipeline.cells cfgs cellOf_inj) (Pipeline.launchToks cfgs cellOf_inj), initOf allCells allToks)

/-- The rights to pay device `c`'s own cells. -/
def minted (c : Dev nD) : sProp 𝕄 := bigSep Finset.univ fun x : Dut => dutyTok ER (kcell (c, x.1)) 0 x.2

/-- What the launch element deals device `c`. -/
def G (c : Dev nD) : sProp 𝕄 :=
  iprop((bigSep Finset.univ fun k : Cell => roundState ER (sched m) (kcell (c, k)) 0)
    ∗ (bigSep Finset.univ fun k : Cell => iprop(pos c k ∗ reached ER (kcell (c, k)) 0)) ∗ minted c)

/-- Every cell's invariant, under the names `K`, and that it has reached its round. -/
def records (K : Dev nD × Cell → ℕ) : sProp 𝕄 :=
  iprop((bigSep Finset.univ fun ck : Dev nD × Cell => cellInv ER (sched m) (K ck) (kcell ck))
    ∗ bigSep Finset.univ fun ck : Dev nD × Cell => reached ER (kcell ck) 0)
instance records_persistent (K : Dev nD × Cell → ℕ) : BI.Persistent (records m K) := by unfold records; infer_instance

/-- What the step over all devices makes of it. -/
def G' (c : Dev nD) : sProp 𝕄 :=
  iprop(∃ K, records m K ∗ (bigSep Finset.univ fun k : Cell => pos c k) ∗ toks c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G pos; simp only [bigSep_sep']
  isplitl [Hst']; · iexact Hst'
  isplitl [Hat' Hr']
  · isplitl [Hat']; · iexact Hat'
    iexact Hr'
  iexact Htok'

/-! ## The semaphores at zero -/

theorem unscopedSems0_eq (c : Dev nD) : (unscopedSems0 c : sProp 𝕄) = clo c kBar := by
  unfold unscopedSems0 clo; rw [bigSep_eq_bigSepL_of_eq [SemLoc.reg semBar] (by decide) (by decide)]; rfl

theorem sems0_eq (c : Dev nD) :
    closed (F := F) c = iprop(unscopedSems0 c ∗ Pipeline.ownSems0 (Ix := Unit) (Name := ℕ) (U := UU) (Lvl := ℕ) (Val := Elt F) (τ := τ) osem c) := by
  unfold closed
  rw [over_sum, over_unit, unscopedSems0_eq]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Cell => iprop(pos c k ∗ reached ER (kcell (c, k)) 0)) ∗ minted c) := by
  unfold G
  iintro ⟨Hos, Hus, Hst, Hat, Htok⟩
  ihave Hv := (Entails.of_eq (sems0_eq (F := F) c).symm) $$ [Hos Hus]
  · isplitl [Hus]; · iexact Hus
    iexact Hos
  imod (show iprop(closed (F := F) c ∗ bigSep Finset.univ fun k : Cell => roundState ER (sched m) (kcell (c, k)) 0)
      ⊢ (|={Set.univ}=> bigSep Finset.univ fun k => iprop(∃ κ : ℕ, cellInv ER (sched m) κ (kcell (c, k))) : sProp 𝕄) from by
        unfold closed clo
        rw [← bigSep_sep']
        exact (bigSep_mono fun k _ => (Rounds.body_intro ER (sched m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The rights to pay, to the devices that pay -/

theorem toks_pick (c : Dev nD) : (bigSep Finset.univ fun x : Dut => (tok c x : sProp 𝕄)) ⊢ toks c := by
  have h0 (k : Cell) : (bigSep Finset.univ fun j : Fin 3 => (tok c (k, j) : sProp 𝕄)) ⊢ tok c (k, 0) := bigSep_elim (Finset.mem_univ 0)
  rw [bigSep_univ_prod, over_sum, over_unit, over_sum, over_sum, over_sum, over_three]
  refine (BIClass.sep_mono (BI.Entails.refl _) (BIClass.sep_mono
    (BIClass.sep_mono (bigSep_mono fun x _ => h0 (kRW x)) (bigSep_mono fun x _ => h0 (kSW x)))
    (BIClass.sep_mono (bigSep_mono fun x _ => h0 (kRG x)) (bigSep_mono fun x _ => h0 (kSG x))))).trans ?_
  unfold toks
  rw [bigSep_sep', bigSep_sep']

theorem toks_around : (bigSep Finset.univ fun c : Dev nD => (minted c : sProp 𝕄)) ⊢ bigSep Finset.univ fun c : Dev nD => toks c := by
  refine (Entails.of_eq ?_).trans (bigSep_mono fun c _ => toks_pick c)
  unfold minted
  rw [over_swap, over_swap (fun (c : Dev nD) (x : Dut) => (tok c x : sProp 𝕄))]
  refine bigSep_congr fun x _ => ?_
  rw [bigSep_univ_equiv (tgtE x) (fun c : Dev nD => (dutyTok ER (kcell (c, x.1)) 0 x.2 : sProp 𝕄))]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Cell => iprop(pos c k ∗ reached ER (kcell (c, k)) 0)) ∗ minted c) : sProp 𝕄)
      ⊢ bigSep Finset.univ (G' m) := by
  rw [bigSep_sep', bigSep_sep', ← bigSep_univ_prod (fun ck : Dev nD × Cell => iprop(∃ κ : ℕ, cellInv ER (sched m) κ (kcell ck))),
    bigSep_congr (s := Finset.univ) (fun (c : Dev nD) _ => bigSep_sep' Finset.univ (fun k : Cell => (pos c k : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched m) κ (kcell ck) : sProp 𝕄))) $$ HI
  icases HK with ⟨%K, #HI⟩
  ihave Htk := (toks_around (F := F)) $$ Htok
  iapply (with_persistent (R := records m K) (Φ := fun c => iprop((bigSep Finset.univ fun k : Cell => pos c k) ∗ toks c)) fun c _ => show _ ⊢ G' m c from by
    unfold G'
    iintro ⟨HR, H⟩
    iexists K
    isplitl [HR]; · iexact HR
    iexact H)
  isplitr
  · unfold records; isplitl; · iexact HI
    iexact HR
  · rw [bigSep_sep']
    isplitl [Hat]; · iexact Hat
    iexact Htk

/-- The step over all devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The rights to wait -/

theorem creds_list (l : List Dut) (c : Dev nD) :
    (Pipeline.launchCred (fun d => owe d l) c : sProp 𝕄) ⊢ bigSepL l fun x => crd c x.1 (amt x.1) := by
  induction l with
  | nil =>
    rw [bigSepL_none]
    exact Entails.of_eq (Pipeline.launchCred_zero c)
  | cons x l ih =>
    rw [bigSepL_cons', show (fun d => owe d (x :: l)) = fun d => owe d l + tallyAt (kcell (tgt x d, x.1)) () (amt x.1) from rfl,
      Pipeline.launchCred_add]
    iintro ⟨Hl, Hx⟩
    isplitl [Hx]
    · unfold crd
      iapply (Pipeline.launchCred_tallyAt (csem x.1) (tgt x) (payer x) (tgt_payer x) (payer_tgt x) () (amt x.1) c)
      iexact Hx
    · iapply ih; iexact Hl

theorem crd_bar (c : Dev nD) : iprop(crd (F := F) c kBar (amt kBar) ∗ crd c kBar (amt kBar) ∗ crd c kBar (amt kBar)) ⊢ crd c kBar 3 := by
  unfold crd
  have h := fun a b => (cred_add (Val := Elt F) (Name := ℕ) (U := UU) (Lvl := ℕ) (tallyAt (kcell (c, kBar)) () a) (tallyAt (kcell (c, kBar)) () b)).2
  refine (sep_mono_right (h 1 1)).trans ?_
  rw [tallyAt_add]
  refine (h 1 2).trans ?_
  rw [tallyAt_add]

theorem owGs_creds (c : Dev nD) (qs : List (Fin 4)) :
    bigSepL (owGs qs) (fun x => (crd c x.1 (amt x.1) : sProp 𝕄)) ⊢ bigSepL qs fun q => bigSepL [0, 1, 2, 3, 4, 5, 6] fun a => crd c (kRG (q, a)) (amt (kRG (q, a))) := by
  induction qs with
  | nil => exact BI.Entails.refl _
  | cons q qs ih =>
    rw [bigSepL_cons', show owGs (q :: qs) = owG q [0, 1, 2, 3, 4, 5, 6] ++ owGs qs from rfl, bigSepL_append]
    exact sep_mono_right ih

theorem creds (c : Dev nD) : (Pipeline.launchCred (fun d => owe d prog) c : sProp 𝕄)
    ⊢ iprop(crd c kBar 3 ∗ bigSep Finset.univ (fun x : WC => crd c (kRW x) (amt (kRW x))) ∗ bigSep Finset.univ fun x : GC => crd c (kRG x) (amt (kRG x))) := by
  refine (creds_list prog c).trans ?_
  unfold prog
  rw [bigSepL_cons', bigSepL_cons', bigSepL_cons', bigSepL_append, bigSepL_append, bigSepL_append, by_phase, by_quarter]
  iintro ⟨B0, B1, B2, W0, W1, W2, HG⟩
  isplitl [B0 B1 B2]
  · iapply (crd_bar c)
    isplitl [B0]; · iexact B0
    isplitl [B1]; · iexact B1
    iexact B2
  isplitl [W0 W1 W2]
  · isplitl [W0]; · iexact W0
    isplitl [W1]; · iexact W1
    iexact W2
  iapply (owGs_creds c [0, 1, 2, 3])
  iexact HG

theorem waits_intro (c : Dev nD) : iprop((crd c kBar 3 ∗ bigSep Finset.univ (fun x : WC => crd c (kRW x) (amt (kRW x))) ∗ bigSep Finset.univ fun x : GC => crd c (kRG x) (amt (kRG x)))
      ∗ bigSep Finset.univ fun k : Cell => (pos c k : sProp 𝕄)) ⊢ waits c := by
  rw [over_sum, over_unit, over_sum, over_sum, over_sum]
  unfold waits awaitW awaitG
  rw [bigSep_sep', bigSep_sep']
  iintro ⟨⟨C0, C1, C2⟩, P0, ⟨P1, P2⟩, P3, P4⟩
  isplitl [C0 P0]
  · isplitl [C0]; · iexact C0
    iexact P0
  isplitl [C1 P1]
  · isplitl [C1]; · iexact C1
    iexact P1
  isplitl [P2]; · iexact P2
  isplitl [C2 P3]
  · isplitl [C2]; · iexact C2
    iexact P3
  iexact P4

end Cert.Gather
-- ==== Proof.Run.lean ====
/-
The run of the program on the eight devices: it ends, the inputs are what they were, every device's result array holds
its computed contents, and every semaphore is at zero.
-/
module

public import proofs.«01_k».proof.Proof.Deal
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI Idealize.SL.RA
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The data of the launch -/

def s₀ : MemSt nD τ sig (Elt F) := ⟨m, fun _ => 0, ρ⟩

/-- What a device starts from. -/
def start (c : Dev nD) : sProp 𝕄 := iprop((∃ K, ctx m K) ∗ toks c ∗ waits c)

def Φ₀ (c : Dev nD) : sProp 𝕄 := iprop(start m c ∗ scr (F := F) c)
def Φ₁ (c : Dev nD) : sProp 𝕄 := iprop(scr (F := F) c ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sX m c
    | ⟨1, _⟩ => sI m 0 c
    | ⟨2, _⟩ => sO m 0 c
    | ⟨3, _⟩ => sI m 1 c
    | ⟨4, _⟩ => sO m 1 c
    | ⟨5, _⟩ => sI m 2 c
    | ⟨6, _⟩ => sO m 2 c
    | ⟨7, _⟩ => outAt m c
  Φ t := match t with
    | ⟨0, _⟩ => Φ₀ m c
    | ⟨_ + 1, _⟩ => Φ₁ (F := F) c
  q _ := fullShare
  owed t := match t with
    | ⟨0, _⟩ => owe c prog
    | ⟨_ + 1, _⟩ => 0

theorem fetch_in (w : Fin 7) (t : Fin cfg0.N) : (cfg0.win (w.castSucc : Fin 8)).fetch t = true := by
  obtain rfl := fin_N0 t; revert w; decide

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 40000 in
def bodyPre (c : Dev nD) : sProp 𝕄 :=
  iprop(Φ₀ m c ∗ (dats m ρ 0 c).owesAt () t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))
set_option maxRecDepth 40000 in
def bodyPost (c : Dev nD) : sProp 𝕄 :=
  iprop(Φ₁ (F := F) c ∗ (dats m ρ 0 c).owesAt () t0_0.succ
    ∗ stg c cc0_stg0_0 (sX m c) ∗ stg c cc0_stg1_0 (sI m 0 c) ∗ stg c cc0_stg2_0 (sO m 0 c) ∗ stg c cc0_stg3_0 (sI m 1 c)
    ∗ stg c cc0_stg4_0 (sO m 1 c) ∗ stg c cc0_stg5_0 (sI m 2 c) ∗ stg c cc0_stg6_0 (sO m 2 c) ∗ stg c cc0_stg7_0 (outAt m c))

theorem before_0 (c : Dev nD) (d) : (dats m ρ 0 c).before (0 : Fin 8) t0_0 d = sX m c := by
  unfold Dat.before; rw [if_pos (show (cfg0.win (0 : Fin 8)).fetch t0_0 = true from fetch_in 0 t0_0)]; rfl
theorem before_1 (c : Dev nD) (d) : (dats m ρ 0 c).before (1 : Fin 8) t0_0 d = sI m 0 c := by
  unfold Dat.before; rw [if_pos (show (cfg0.win (1 : Fin 8)).fetch t0_0 = true from fetch_in 1 t0_0)]; rfl
theorem before_2 (c : Dev nD) (d) : (dats m ρ 0 c).before (2 : Fin 8) t0_0 d = sO m 0 c := by
  unfold Dat.before; rw [if_pos (show (cfg0.win (2 : Fin 8)).fetch t0_0 = true from fetch_in 2 t0_0)]; rfl
theorem before_3 (c : Dev nD) (d) : (dats m ρ 0 c).before (3 : Fin 8) t0_0 d = sI m 1 c := by
  unfold Dat.before; rw [if_pos (show (cfg0.win (3 : Fin 8)).fetch t0_0 = true from fetch_in 3 t0_0)]; rfl
theorem before_4 (c : Dev nD) (d) : (dats m ρ 0 c).before (4 : Fin 8) t0_0 d = sO m 1 c := by
  unfold Dat.before; rw [if_pos (show (cfg0.win (4 : Fin 8)).fetch t0_0 = true from fetch_in 4 t0_0)]; rfl
theorem before_5 (c : Dev nD) (d) : (dats m ρ 0 c).before (5 : Fin 8) t0_0 d = sI m 2 c := by
  unfold Dat.before; rw [if_pos (show (cfg0.win (5 : Fin 8)).fetch t0_0 = true from fetch_in 5 t0_0)]; rfl
theorem before_6 (c : Dev nD) (d) : (dats m ρ 0 c).before (6 : Fin 8) t0_0 d = sO m 2 c := by
  unfold Dat.before; rw [if_pos (show (cfg0.win (6 : Fin 8)).fetch t0_0 = true from fetch_in 6 t0_0)]; rfl

theorem stg_open (c : Dev nD) (b : Ref sig .tc) (X : b.ty.Contents (Elt F)) :
    stg c b X ⊢ iprop(((c : Thread nD τ).loc b) ↦{fullShare} (X : Buf (Elt F) ((c : Thread nD τ).loc b))) := by
  iintro ⟨%f, %hf, H⟩
  subst hf
  iexact H
theorem stg_shut (c : Dev nD) (b : Ref sig .tc) (X : b.ty.Contents (Elt F)) :
    iprop(((c : Thread nD τ).loc b) ↦{fullShare} (X : Buf (Elt F) ((c : Thread nD τ).loc b))) ⊢ stg c b X := by
  iintro H
  iexists X
  isplitr; · ipureintro; rfl
  iexact H

theorem staged (c : Dev nD) (b : Ref sig .tc) {D : Type} {Y : D → b.ty.Contents (Elt F)} {X : b.ty.Contents (Elt F)} (h : ∀ d, Y d = X) :
    iprop(∃ d, stg c b (Y d)) ⊢ iprop(((c : Thread nD τ).loc b) ↦{fullShare} (X : Buf (Elt F) ((c : Thread nD τ).loc b))) := by
  iintro ⟨%d, H⟩
  rw [h d]
  iapply (stg_open c b X); iexact H

theorem inp_in (c : Dev nD) : iprop(
    (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))
    ⊢ iprop(inp m c ∗ ∃ f : S4096x256.Idx → Elt F .f32, ((c : Thread nD τ).loc cc0_stg7_0) ↦{fullShare} f) := by
  refine (BIClass.sep_mono (staged c _ (before_0 m ρ c)) (BIClass.sep_mono (staged c _ (before_1 m ρ c)) (BIClass.sep_mono (staged c _ (before_2 m ρ c))
    (BIClass.sep_mono (staged c _ (before_3 m ρ c)) (BIClass.sep_mono (staged c _ (before_4 m ρ c)) (BIClass.sep_mono (staged c _ (before_5 m ρ c))
    (sep_mono_left (staged c _ (before_6 m ρ c))))))))).trans ?_
  unfold inp
  iintro ⟨H0, H1, H2, H3, H4, H5, H6, ⟨%d, %f, %hf, H7⟩⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexists f; iexact H7

theorem inp_out (c : Dev nD) : iprop(inp m c ∗ (((c : Thread nD τ).loc cc0_stg7_0) ↦{fullShare} outAt m c))
    ⊢ iprop(stg c cc0_stg0_0 (sX m c) ∗ stg c cc0_stg1_0 (sI m 0 c) ∗ stg c cc0_stg2_0 (sO m 0 c) ∗ stg c cc0_stg3_0 (sI m 1 c)
    ∗ stg c cc0_stg4_0 (sO m 1 c) ∗ stg c cc0_stg5_0 (sI m 2 c) ∗ stg c cc0_stg6_0 (sO m 2 c) ∗ stg c cc0_stg7_0 (outAt m c)) := by
  unfold inp
  iintro ⟨⟨H0, H1, H2, H3, H4, H5, H6⟩, H7⟩
  isplitl [H0]; · iapply (stg_shut c cc0_stg0_0); iexact H0
  isplitl [H1]; · iapply (stg_shut c cc0_stg1_0); iexact H1
  isplitl [H2]; · iapply (stg_shut c cc0_stg2_0); iexact H2
  isplitl [H3]; · iapply (stg_shut c cc0_stg3_0); iexact H3
  isplitl [H4]; · iapply (stg_shut c cc0_stg4_0); iexact H4
  isplitl [H5]; · iapply (stg_shut c cc0_stg5_0); iexact H5
  isplitl [H6]; · iapply (stg_shut c cc0_stg6_0); iexact H6
  iapply (stg_shut c cc0_stg7_0); iexact H7

set_option maxRecDepth 40000 in
/-- The body's run from what the pipeline holds to what it takes back. -/
theorem run_body (c : Dev nD) : bodyPre m ρ c ⊢ run c model fun _ => bodyPost m ρ c := by
  unfold bodyPre Φ₀ start Dat.owesAt Pipeline.owesWithin
  rw [show (dats m ρ 0 c).owed t0_0.castSucc = owe c prog from rfl]
  iintro ⟨⟨⟨⟨%K, Hc⟩, Ht, Hw⟩, Hs⟩, ⟨%W, %hW, HO⟩, Hst⟩
  ihave Hst := (inp_in m ρ c) $$ Hst
  icases Hst with ⟨Hi, Ho⟩
  iapply (run_model m K c fun _ => bodyPost m ρ c)
  isplitl [Hc]; · iexact Hc
  isplitl [HO Ht Hw Hi Hs Ho]
  · unfold bodyIn Ow
    isplitl [HO]; · iexists W; iexact HO
    isplitl [Ht]; · iexact Ht
    isplitl [Hw]; · iexact Hw
    isplitl [Hi]; · iexact Hi
    isplitl [Hs]; · iexact Hs
    iexact Ho
  unfold bodyOut Ow bodyPost Φ₁ Dat.owesAt Pipeline.owesWithin
  rw [show (dats m ρ 0 c).owed t0_0.succ = 0 from rfl]
  iintro ⟨⟨%W', HO⟩, Hcl, Hi, Hs, Ho⟩
  isplitl [Hs Hcl]
  · isplitl [Hs]; · iexact Hs
    iexact Hcl
  isplitl [HO]
  · iexists W'
    isplitr; · ipureintro; exact fun _ _ => Or.inl trivial
    iexact HO
  iapply (inp_out m c)
  isplitl [Hi]; · iexact Hi
  iexact Ho

set_option maxRecDepth 40000 in
theorem body_obligation (c : Dev nD) : BodyObligation (dats (F := F) m ρ 0 c) (defs₀ (F := F)) 𝒱₀ () Set.univ := fun t => by
  obtain rfl := fin_N0 t
  rw [bigSep_W0, bigSep_W0]
  simp only [owns_whole_eq]
  show bodyPre m ρ c ⊢ wp frame (wpE (defs₀ (F := F)) 𝒱₀ c none) Set.univ (bodyAt0 t0_0) (fun _ => bodyPost m ρ c)
  rw [body_eq]
  exact run_body m ρ c

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owe d prog) c ∗ prngReg c (ρ c) ∗ G' m c)
      ⊢ |={Set.univ}=> iprop(start m c ∗ emp) := by
  unfold G'
  iintro ⟨-, Hlev, Hcr, -, ⟨%K, HR, Hp, Ht⟩⟩
  ihave Hcr := (creds (F := F) c) $$ Hcr
  imodintro
  unfold start
  isplitl
  · isplitl [HR Hlev]
    · iexists K
      unfold ctx records
      icases HR with ⟨H1, H2⟩
      isplitl [H1]; · iexact H1
      isplitl [H2]; · iexact H2
      iexact Hlev
    isplitl [Ht]; · iexact Ht
    iapply (waits_intro c)
    isplitl [Hcr]; · iexact Hcr
    iexact Hp
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  rw [sems0_eq]
  unfold scr
  iintro ⟨Hr, Hu, Ho⟩
  isplitl [Hu]; · iexact Hu
  isplitl [Ho]; · iexact Ho
  iexact Hr

theorem prog_lv : ∀ x ∈ prog, 0 < lvk x.1 := by decide +kernel

/-- A staging semaphore is none of the protocol's. -/
theorem stage_ne : ∀ (w : Fin 8) (s : Fin (spec0 w).nbuf) (k : Cell), csem k ≠ .dma ((spec0 w).sem s) := by decide +kernel

theorem cellsWaits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ prog fun x hx => ?_
      have h : lv ((c : Thread nD τ), .dma ((spec0 w).sem s)) () = 0 := by
        unfold lv; rw [cellOfSem_none (stage_ne w s)]
      exact h.symm ▸ prog_lv x hx
    · exact mayWait c _ [] fun x hx => absurd hx List.not_mem_nil

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 80000 in
/-- On eight devices, for any float values, from any memory with zero counters: every weakly fair execution of the
    program ends, with every array at its computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owe d prog) (howed₀ := fun _ => rfl) (howedN := fun _ => rfl)
    (L := L) (lv := lv) (hL := L_of_ne) (hwaits := cellsWaits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are what they were. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.Gather
-- ==== Proof.Frames.lean ====
/-
The inputs are unchanged and every semaphore is at zero: of the kernel, of its idealization and of the reference.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Gather

open Cert.KernelIdeal Cert.KernelIdeal.Gen
open Idealize.ShloMosaic
open Idealize.ShloMosaic.TcCoe
open Idealize.SL Idealize.SL.Sem

attribute [local instance] Cert.Kernel.Gen.facts Cert.KernelIdeal.Gen.facts Cert.ReferenceIdeal.Gen.facts

variable {F : FTy → Type} [FloatOps F] (m : (ℓ : Loc nD τ sig) → Buf (Elt F) ℓ) (ρ : Dev nD → PrngReg)

/-- Every input array of device `c` holds what it held. -/
def Kept (c : Dev nD) (r : PUnit × MemSt nD τ sig (Elt F)) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem kept_of {r : PUnit × MemSt nD τ sig (Elt F)} (h : QC m ρ r) (c : Dev nD) : Kept m c r :=
  ⟨(h c (0 : Fin 8)).trans (finalA_in m ρ c (0 : Fin 8) rfl), (h c (1 : Fin 8)).trans (finalA_in m ρ c (1 : Fin 8) rfl),
    (h c (2 : Fin 8)).trans (finalA_in m ρ c (2 : Fin 8) rfl), (h c (3 : Fin 8)).trans (finalA_in m ρ c (3 : Fin 8) rfl),
    (h c (4 : Fin 8)).trans (finalA_in m ρ c (4 : Fin 8) rfl), (h c (5 : Fin 8)).trans (finalA_in m ρ c (5 : Fin 8) rfl),
    (h c (6 : Fin 8)).trans (finalA_in m ρ c (6 : Fin 8) rfl)⟩

theorem quiet : θ_run defs (onTc (τ := τ) (main (F := F))) ⟨m, fun _ => 0, ρ⟩
    (fun r => (∀ c : Dev nD, Kept m c r) ∧ r.2.sem = fun _ => 0) :=
  (θ_run defs _ _).mono (fun _ h => ⟨fun c => kept_of m ρ h.1 c, h.2⟩) (run_main (F := F) m ρ)

theorem frame_ideal : Cert.quiescent_KernelIdeal := fun m ρ _ => quiet (F := Ideal) m ρ

set_option maxRecDepth 100000 in
set_option maxHeartbeats 8000000 in
/-- The two printed bodies are the same program: effect by effect, each is the same by computation. -/
theorem printed_same : (Cert.Kernel.cc0_body (F := F) mX (Memref.isWhole_whole _) mI0 (Memref.isWhole_whole _) mO0 (Memref.isWhole_whole _) mI1 (Memref.isWhole_whole _)
    mO1 (Memref.isWhole_whole _) mI2 (Memref.isWhole_whole _) mO2 (Memref.isWhole_whole _) mOut (Memref.isWhole_whole _)
    mW hW mG hG mA hA mB hB cc0_scratch4 cc0_scratch5 cc0_scratch6 cc0_scratch7) = printed (F := F) := by
  repeat (refine op_congr rfl fun v => ?_)
  rfl

set_option maxRecDepth 100000 in
set_option maxHeartbeats 8000000 in
theorem bodies_same : Cert.Kernel.defs₀ (F := F) = defs₀ := by
  funext k ℓ a
  match k with
  | .scScalar _ => rfl
  | .scVector _ _ => rfl
  | .tc =>
    match ℓ, a with
    | ⟨0, _⟩, (t, s) =>
      have hs : s = fun w => ⟨0, by fin_cases w <;> decide⟩ := by
        funext w
        fin_cases w <;> exact Subsingleton.elim (α := Fin 1) _ _
      subst hs
      exact printed_same
    | ⟨_ + 1, h⟩, _ => exact absurd h (Nat.not_lt.2 (Nat.le_add_left _ _))

theorem defs_same : Cert.Kernel.defs (F := F) = defs := congrArg (Pipeline.defs pcfgs) bodies_same

theorem frame_kernel : Cert.quiescent_Kernel := fun m ρ _ => by
  have h := quiet (F := Bits) m ρ
  rw [← defs_same] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Gather
-- ==== Proof.Layers.lean ====
/-
One layer over the extended reals, and the kernel's products read as it.

A layer maps a row `x` to `max (x W) 0 V`. Its hidden axis, 4096 long, is cut into eight blocks of 512, one per device;
the layer is the sum of the eight blocks' parts, in any order. The kernel's products over one block, over four and over
eight are sums of those parts.
-/
module

public import proofs.«01_k».proof.Proof.Common
public import Idealize.ShloMosaic.Lib.MatmulPlain
public import Idealize.ShloMosaic.Lib.StackMember
public import Idealize.ShloMosaic.Lib.ValueIdx
public import Idealize.ShloMosaic.Lib.ValueLayout
public import Idealize.ShloMosaic.Lib.IdealHost

@[expose] public section

noncomputable section

namespace Cert.Gather

open Cert.KernelIdeal Cert.KernelIdeal.Gen
open Idealize.ShloMosaic
open Idealize.ShloMosaic.TcCoe
open Idealize.ShloMosaic.ValueIdx

/-! ## Layers -/

/-- Element `l` of block `s` of an axis cut into `K` blocks of 512. -/
def at_ {K N : ℕ} (h : N = K * 512) (s : Fin K) (l : Fin 512) : Fin N := ⟨512 * s.val + l.val, by omega⟩

/-- Element `l` of device `d`'s block of an axis of 4096. -/
abbrev at8 (d : Fin 8) (l : Fin 512) : Fin 4096 := at_ (K := 8) rfl d l

theorem sum_blocks {K N : ℕ} (h : N = K * 512) (g : Fin N → EReal) :
    ∑ n, g n = ∑ s : Fin K, ∑ l : Fin 512, g (at_ h s l) := by
  subst h
  rw [← Equiv.sum_comp (finProdFinEquiv (m := K) (n := 512)) g, Fintype.sum_prod_type]
  refine Finset.sum_congr rfl fun s _ => Finset.sum_congr rfl fun l _ => congrArg g (Fin.ext ?_)
  simp [at_, finProdFinEquiv]
  omega

variable (W : Fin 3 → Fin 256 → Fin 4096 → EReal) (V : Fin 3 → Fin 4096 → Fin 256 → EReal)

/-- Element `j` of the row that layer `L` makes of row `x`. -/
def layer (L : Fin 3) (x : Fin 256 → EReal) (j : Fin 256) : EReal :=
  ∑ f : Fin 4096, max (∑ k : Fin 256, x k * W L k f) 0 * V L f j

/-- Slot `s`'s part of it on device `c`. -/
def part (L : Fin 3) (c : Dev nD) (x : Fin 256 → EReal) (j : Fin 256) (s : Fin 8) : EReal :=
  ∑ l : Fin 512, max (∑ k : Fin 256, x k * W L k (at8 (src L c s) l)) 0 * V L (at8 (src L c s) l) j

/-- The eight slots are the eight devices' blocks in some order, so their parts sum to the layer. -/
theorem layer_parts (L : Fin 3) (c : Dev nD) (x : Fin 256 → EReal) (j : Fin 256) :
    layer W V L x j = ∑ s : Fin 8, part W V L c x j s := by
  unfold layer part
  rw [sum_blocks (K := 8) rfl]
  exact ((src_bij L c).sum_comp (fun d : Fin 8 => ∑ l : Fin 512,
    max (∑ k : Fin 256, x k * W L k (at8 d l)) 0 * V L (at8 d l) j)).symm

/-- In layer 0 the device adds four slots one after the other, then the other four together. -/
theorem layer_four (L : Fin 3) (c : Dev nD) (x : Fin 256 → EReal) (j : Fin 256) :
    layer W V L x j = part W V L c x j 0 + part W V L c x j 1 + part W V L c x j 2 + part W V L c x j 3
      + ∑ s : Fin 4, part W V L c x j (Fin.natAdd 4 s) := by
  rw [layer_parts W V L c x j, Fin.sum_univ_add (a := 4) (b := 4) (fun s : Fin 8 => part W V L c x j s)]
  rw [Fin.sum_univ_four (fun s : Fin 4 => part W V L c x j (Fin.castAdd 4 s))]
  rfl

/-! ## The kernel's products -/

/-- `max (x wᵀ) 0 v`, as the kernel computes it, read at `(r, j)`. -/
theorem mlp_apply {M N : ℕ} (x : FVec Ideal ⟨2, ![M, 256]⟩ .bf16) (w v : FVec Ideal ⟨2, ![N, 256]⟩ .bf16)
    (h : FTy.bits .bf16 < FTy.bits .f32) (r : Fin M) (j : Fin 256) :
    FloatOps.matmul (DotDims.plain M N 256) none
      (truncf .bf16 (maximumf (FloatOps.matmul (DotDims.transposedRhs M 256 N) none x w (constant (F := Ideal) ⟨2, ![M, N]⟩ .f32 0x00000000#32))
        (broadcast ⟨2, ![M, N]⟩ (Scalar.ofBits (F := Ideal) .f32 0x00000000#32))) h) v (constant (F := Ideal) ⟨2, ![M, 256]⟩ .f32 0x00000000#32) (ix2 r j)
      = ∑ n : Fin N, max (∑ k : Fin 256, x (ix2 r k) * w (ix2 n k)) 0 * v (ix2 n j) := by
  rw [Ideal.matmul_plain_apply, constant_apply, Ideal.ofBits_zero_f32, zero_add]
  refine Finset.sum_congr rfl fun n _ => ?_
  rw [truncf_apply, maximumf_apply, Ideal.matmul_transposedRhs_apply, constant_apply, broadcast_apply]
  rw [show Scalar.ofBits (F := Ideal) .f32 0x00000000#32 = (0 : EReal) from Ideal.ofBits_zero_f32, Ideal.ofBits_zero_f32, zero_add]

/-- The same over `K` slots: the sum of their parts, if each slot's rows are the columns and rows of its device's block. -/
theorem mlp_parts {M N K : ℕ} (hN : N = K * 512) (x : FVec Ideal ⟨2, ![M, 256]⟩ .bf16) (w v : FVec Ideal ⟨2, ![N, 256]⟩ .bf16)
    (L : Fin 3) (c : Dev nD) (sl : Fin K → Fin 8)
    (hw : ∀ s l k, w (ix2 (at_ hN s l) k) = W L k (at8 (src L c (sl s)) l))
    (hv : ∀ s l j, v (ix2 (at_ hN s l) j) = V L (at8 (src L c (sl s)) l) j) (r : Fin M) (j : Fin 256) :
    ∑ n : Fin N, max (∑ k : Fin 256, x (ix2 r k) * w (ix2 n k)) 0 * v (ix2 n j)
      = ∑ s : Fin K, part W V L c (fun k => x (ix2 r k)) j (sl s) := by
  rw [sum_blocks hN]
  unfold part
  exact Finset.sum_congr rfl fun s _ => Finset.sum_congr rfl fun l _ => by simp only [hw, hv]

/-- The reference's layer read at `(r, j)`. -/
theorem host_layer (L : Fin 3) (x : FVec Ideal ⟨2, ![4096, 256]⟩ .f32) (w : FVec Ideal ⟨2, ![256, 4096]⟩ .f32)
    (v : FVec Ideal ⟨2, ![4096, 256]⟩ .f32) (z : FVec Ideal ⟨2, ![4096, 4096]⟩ .f32) (hz : ∀ i, z i = (0 : EReal))
    (hw : ∀ k f, w (ix2 k f) = W L k f) (hv : ∀ f j, v (ix2 f j) = V L f j) (r : Fin 4096) (j : Fin 256) :
    Host.dotGeneral (DotDims.plain 4096 4096 256) none
      (maximumf (Host.dotGeneral (DotDims.plain 4096 256 4096) none x w) z) v (ix2 r j)
      = layer W V L (fun k => x (ix2 r k)) j := by
  rw [Idealize.ShloMosaic.StackMember.dotGeneral_plain_apply]
  unfold layer
  refine Finset.sum_congr rfl fun f _ => ?_
  rw [maximumf_apply, Idealize.ShloMosaic.StackMember.dotGeneral_plain_apply, hz, hv]
  simp only [hw]

end Cert.Gather
-- ==== Proof.Value.lean ====
/-
What the kernel computes over the extended reals.

If the devices hold the rows and columns of whole matrices, each device ends with the whole result: row by row, three
layers one after the other.
-/
module

public import proofs.«01_k».proof.Proof.Layers
public import Idealize.ShloMosaic.Lib.Pipeline.ValueKit.Tiles

@[expose] public section

noncomputable section

namespace Cert.Gather

open Cert.KernelIdeal Cert.KernelIdeal.Gen
open Idealize.ShloMosaic
open Idealize.ShloMosaic.TcCoe
open Idealize.ShloMosaic.ValueIdx

/-! ## Shape casts read at an index -/

section Casts
variable {α : Type}

theorem cast_five (x : S512x256.Idx → α) (h : S512x256.ShapeCasts S1x1x1x512x256) (a b d : Fin 1) (l : Fin 512) (k : Fin 256) :
    shapeCast S1x1x1x512x256 x h (ix5 a b d l k) = x (ix2 l k) :=
  shapeCast_apply x h _ _ (by
    rw [Shape.rowMajor_val_two, Shape.rowMajor_val_five]
    show l.val * 256 + k.val = (((a.val * 1 + b.val) * 1 + d.val) * 512 + l.val) * 256 + k.val
    have := a.isLt; have := b.isLt; have := d.isLt
    omega)

theorem cast_slot (x : S1x1x1x512x256.Idx → α) (h : S1x1x1x512x256.ShapeCasts S512x256) (l : Fin 512) (k : Fin 256) :
    shapeCast S512x256 x h (ix2 l k) = x (ix5 (0 : Fin 1) (0 : Fin 1) (0 : Fin 1) l k) :=
  shapeCast_apply x h _ _ (by
    rw [Shape.rowMajor_val_two, Shape.rowMajor_val_five]
    show (((0 * 1 + 0) * 1 + 0) * 512 + l.val) * 256 + k.val = l.val * 256 + k.val
    omega)

theorem cast_slots4 (x : S1x4x1x512x256.Idx → α) (h : S1x4x1x512x256.ShapeCasts S4x512x256) (h' : S4x512x256.ShapeCasts S2048x256)
    (s : Fin 4) (l : Fin 512) (k : Fin 256) :
    shapeCast S2048x256 (shapeCast S4x512x256 x h) h' (ix2 (at_ (K := 4) rfl s l) k) = x (ix5 (0 : Fin 1) s (0 : Fin 1) l k) :=
  (shapeCast_apply _ h' _ (ix3 s l k) (by
    rw [Shape.rowMajor_val_two, Shape.rowMajor_val_three]
    show (s.val * 512 + l.val) * 256 + k.val = (512 * s.val + l.val) * 256 + k.val
    omega)).trans (shapeCast_apply x h _ _ (by
    rw [Shape.rowMajor_val_three, Shape.rowMajor_val_five]
    show (((0 * 4 + s.val) * 1 + 0) * 512 + l.val) * 256 + k.val = (s.val * 512 + l.val) * 256 + k.val
    omega))

theorem cast_slots8 (x : S1x8x1x512x256.Idx → α) (h : S1x8x1x512x256.ShapeCasts S8x512x256) (h' : S8x512x256.ShapeCasts S4096x256)
    (s : Fin 8) (l : Fin 512) (k : Fin 256) :
    shapeCast S4096x256 (shapeCast S8x512x256 x h) h' (ix2 (at_ (K := 8) rfl s l) k) = x (ix5 (0 : Fin 1) s (0 : Fin 1) l k) :=
  (shapeCast_apply _ h' _ (ix3 s l k) (by
    rw [Shape.rowMajor_val_two, Shape.rowMajor_val_three]
    show (s.val * 512 + l.val) * 256 + k.val = (512 * s.val + l.val) * 256 + k.val
    omega)).trans (shapeCast_apply x h _ _ (by
    rw [Shape.rowMajor_val_three, Shape.rowMajor_val_five]
    show (((0 * 8 + s.val) * 1 + 0) * 512 + l.val) * 256 + k.val = (s.val * 512 + l.val) * 256 + k.val
    omega))

theorem cast_quarter (x : S1x1x128x256.Idx → α) (h : S1x1x128x256.ShapeCasts S128x256) (l : Fin 128) (k : Fin 256) :
    shapeCast S128x256 x h (ix2 l k) = x (ix4 (0 : Fin 1) (0 : Fin 1) l k) :=
  shapeCast_apply x h _ _ (by
    rw [Shape.rowMajor_val_two, Shape.rowMajor_val_four]
    show ((0 * 1 + 0) * 128 + l.val) * 256 + k.val = l.val * 256 + k.val
    omega)

end Casts

/-! ## The weights -/

variable (m : (ℓ : Loc nD τ sig) → Buf (Elt Ideal) ℓ)

/-- The devices' inputs are the blocks of whole matrices: `X` and the `W`, `V` of each layer. -/
structure Blocks (X : Fin 4096 → Fin 256 → EReal) (W : Fin 3 → Fin 256 → Fin 4096 → EReal)
    (V : Fin 3 → Fin 4096 → Fin 256 → EReal) : Prop where
  x : ∀ c l k, sX m c (ix2 l k) = X (at8 c l) k
  i : ∀ L c k l, sI m L c (ix2 k l) = W L k (at8 c l)
  o : ∀ L c l j, sO m L c (ix2 l j) = V L (at8 c l) j

variable {m} {X : Fin 4096 → Fin 256 → EReal} {W : Fin 3 → Fin 256 → Fin 4096 → EReal}
  {V : Fin 3 → Fin 4096 → Fin 256 → EReal} (B : Blocks m X W V)
include B

theorem wfull_in (c : Dev nD) (L : Fin 3) (s : Fin 8) (l : Fin 512) (k : Fin 256) :
    wfull m c (ix5 L s (0 : Fin 2) l k) = W L k (at8 (src L c s) l) := by
  refine Eq.trans ?_ (B.i L (src L c s) k l)
  show k0_pay1 (sI m L (src L c s)) (ix5 (0 : Fin 1) (0 : Fin 1) (0 : Fin 1) l k) = _
  unfold k0_pay1
  try dsimp only
  rw [cast_five, transpose_ix2_apply, truncf_apply, shapeCast_self]

theorem wfull_out (c : Dev nD) (L : Fin 3) (s : Fin 8) (l : Fin 512) (j : Fin 256) :
    wfull m c (ix5 L s (1 : Fin 2) l j) = V L (at8 (src L c s) l) j := by
  refine Eq.trans ?_ (B.o L (src L c s) l j)
  show k0_pay2 (sO m L (src L c s)) (ix5 (0 : Fin 1) (0 : Fin 1) (0 : Fin 1) l j) = _
  unfold k0_pay2
  try dsimp only
  rw [cast_five, truncf_apply, shapeCast_self]

omit B in
theorem w1_at (L : Fin 3) (s : Fin 8) (k : Fin 2) (c : Dev nD) (l : Fin 512) (j : Fin 256) :
    w1 m L s k c (ix5 (0 : Fin 1) (0 : Fin 1) (0 : Fin 1) l j) = wfull m c (ix5 L s k l j) := by
  refine congrArg (wfull m c) (funext fun a => Fin.ext ?_)
  refine (Rect.idx_unit_val _ _ _ _ a).trans ?_
  match a with
  | ⟨0, _⟩ => rfl
  | ⟨1, _⟩ => rfl
  | ⟨2, _⟩ => rfl
  | ⟨3, _⟩ => exact Nat.zero_add _
  | ⟨4, _⟩ => exact Nat.zero_add _

omit B in
theorem w4_at (k : Fin 2) (c : Dev nD) (s : Fin 4) (l : Fin 512) (j : Fin 256) :
    w4 m k c (ix5 (0 : Fin 1) s (0 : Fin 1) l j) = wfull m c (ix5 (0 : Fin 3) (Fin.natAdd 4 s : Fin 8) k l j) := by
  refine congrArg (wfull m c) (funext fun a => Fin.ext ?_)
  refine (Rect.idx_unit_val _ _ _ _ a).trans ?_
  match a with
  | ⟨0, _⟩ => rfl
  | ⟨1, _⟩ => rfl
  | ⟨2, _⟩ => rfl
  | ⟨3, _⟩ => exact Nat.zero_add _
  | ⟨4, _⟩ => exact Nat.zero_add _

omit B in
theorem w8_at (L : Fin 3) (k : Fin 2) (c : Dev nD) (s : Fin 8) (l : Fin 512) (j : Fin 256) :
    w8 m L k c (ix5 (0 : Fin 1) s (0 : Fin 1) l j) = wfull m c (ix5 L s k l j) := by
  refine congrArg (wfull m c) (funext fun a => Fin.ext ?_)
  refine (Rect.idx_unit_val _ _ _ _ a).trans ?_
  match a with
  | ⟨0, _⟩ => rfl
  | ⟨1, _⟩ => exact Nat.zero_add _
  | ⟨2, _⟩ => rfl
  | ⟨3, _⟩ => exact Nat.zero_add _
  | ⟨4, _⟩ => exact Nat.zero_add _

/-! ## The activations -/

/-- One slot's product: that slot's part of the layer. -/
theorem slot_product (c : Dev nD) (L : Fin 3) (s : Fin 8) (x : FVec Ideal S512x256 .bf16) (h : FTy.bits .bf16 < FTy.bits .f32)
    (h1 h2 : S1x1x1x512x256.ShapeCasts S512x256) (r : Fin 512) (j : Fin 256) :
    matmul dot_S512x512_S512x256_S512x256_1_0_0_1_n_n none
      (truncf .bf16 (maximumf (matmul dot_S512x256_S512x256_S512x512_1_1_0_0_n_n none x (shapeCast S512x256 (w1 m L s 0 c) h1 : FVec Ideal S512x256 .bf16)
          (constant (F := Ideal) S512x512 .f32 0x00000000#32))
        (broadcast S512x512 (Scalar.ofBits (F := Ideal) .f32 0x00000000#32))) h)
      (shapeCast S512x256 (w1 m L s 1 c) h2 : FVec Ideal S512x256 .bf16) (constant (F := Ideal) S512x256 .f32 0x00000000#32) (ix2 r j)
      = part W V L c (fun k => x (ix2 r k)) j s := by
  refine (mlp_apply (M := 512) (N := 512) x _ _ h r j).trans ?_
  refine (mlp_parts W V (N := 512) (K := 1) rfl x _ _ L c (fun _ => s) ?_ ?_ r j).trans (Fin.sum_univ_one _)
  · intro u l k
    have e : at_ (K := 1) (N := 512) rfl u l = l := Fin.ext (by show 512 * u.val + l.val = l.val; omega)
    rw [e, cast_slot, w1_at, wfull_in B]
  · intro u l k
    have e : at_ (K := 1) (N := 512) rfl u l = l := Fin.ext (by show 512 * u.val + l.val = l.val; omega)
    rw [e, cast_slot, w1_at, wfull_out B]

theorem xb0_at (c : Dev nD) (r : Fin 512) (k : Fin 256) : xb0 m c (ix3 (0 : Fin 1) r k) = X (at8 c r) k := by
  rw [← B.x c r k]
  unfold xb0 k0_pay7
  try dsimp only
  rw [shapeCast_ab_1ab_apply, truncf_apply, shapeCast_self]

theorem xb1_at (c : Dev nD) (r : Fin 512) (j : Fin 256) :
    xb1 m c (ix3 (0 : Fin 1) r j) = layer W V 0 (X (at8 c r)) j := by
  have hx : (fun k => k0_pay8 (xb0 m c) (ix2 r k)) = X (at8 c r) := funext fun k => by
    unfold k0_pay8
    try dsimp only
    rw [shapeCast_1ab_ab_apply, xb0_at B]
  unfold xb1 k0_pay11 k0_pay10 k0_pay9
  try dsimp only
  rw [shapeCast_ab_1ab_apply, truncf_apply, addf_apply, addf_apply, addf_apply, addf_apply,
    slot_product B, slot_product B, slot_product B, slot_product B, hx, layer_four W V 0 c]
  refine congrArg₂ (fun a b : EReal => a + b) rfl ?_
  refine (mlp_apply (M := 512) (N := 2048) _ _ _ _ r j).trans ?_
  refine (mlp_parts W V (N := 2048) (K := 4) rfl _ _ _ 0 c (Fin.natAdd 4) ?_ ?_ r j).trans ?_
  · intro s l k
    rw [cast_slots4, w4_at, wfull_in B]
  · intro s l k
    rw [cast_slots4, w4_at, wfull_out B]
  · rw [hx]

theorem xb2_at (c : Dev nD) (r : Fin 512) (j : Fin 256) :
    xb2 m c (ix3 (0 : Fin 1) r j) = layer W V 1 (layer W V 0 (X (at8 c r))) j := by
  have hx : (fun k => shapeCast S512x256 (xb1 m c) shapeCasts_S1x512x256_S512x256 (ix2 r k)) = layer W V 0 (X (at8 c r)) :=
    funext fun k => by rw [shapeCast_1ab_ab_apply, xb1_at B]
  unfold xb2 k0_pay12
  try dsimp only
  rw [shapeCast_ab_1ab_apply, truncf_apply]
  refine (mlp_apply (M := 512) (N := 4096) _ _ _ _ r j).trans ?_
  refine (mlp_parts W V (N := 4096) (K := 8) rfl _ _ _ 1 c id ?_ ?_ r j).trans ?_
  · intro s l k
    rw [cast_slots8, w8_at, wfull_in B]; rfl
  · intro s l k
    rw [cast_slots8, w8_at, wfull_out B]; rfl
  · rw [hx, layer_parts W V 1 c]; rfl

/-! ## The result -/

/-- Row `l` of quarter `q` of a device's rows. -/
def inQ (q : Fin 4) (l : Fin 128) : Fin 512 := ⟨128 * q.val + l.val, by omega⟩

theorem xq_at (q : Fin 4) (c : Dev nD) (l : Fin 128) (k : Fin 256) :
    xq m q c (ix3 (0 : Fin 1) l k) = layer W V 1 (layer W V 0 (X (at8 c (inQ q l)))) k := by
  refine Eq.trans ?_ (xb2_at B c (inQ q l) k)
  show xbfull m c ((rBq q).toLoadRect.idx (ix3 (0 : Fin 1) l k)) = xbfull m c (ix3 (2 : Fin 3) (inQ q l) k)
  refine congrArg (xbfull m c) (funext fun a => Fin.ext ?_)
  refine (Rect.idx_unit_val _ _ _ _ a).trans ?_
  match a with
  | ⟨0, _⟩ => rfl
  | ⟨1, _⟩ => rfl
  | ⟨2, _⟩ => exact Nat.zero_add _

theorem own_at (q : Fin 4) (c : Dev nD) (l : Fin 128) (j : Fin 256) :
    own m q c (ix2 l j) = layer W V 2 (layer W V 1 (layer W V 0 (X (at8 c (inQ q l))))) j := by
  have hx : (fun k => shapeCast S128x256 (xq m q c) shapeCasts_S1x128x256_S128x256 (ix2 l k))
      = layer W V 1 (layer W V 0 (X (at8 c (inQ q l)))) :=
    funext fun k => by rw [shapeCast_1ab_ab_apply, xq_at B]
  unfold own k0_pay15 k0_pay13 k0_pay14
  try dsimp only
  refine (mlp_apply (M := 128) (N := 4096) _ _ _ _ l j).trans ?_
  refine (mlp_parts W V (N := 4096) (K := 8) rfl _ _ _ 2 c id ?_ ?_ l j).trans ?_
  · intro s l k
    rw [cast_slots8, w8_at, wfull_in B]; rfl
  · intro s l k
    rw [cast_slots8, w8_at, wfull_out B]; rfl
  · rw [hx, layer_parts W V 2 c]; rfl

/-- What a device receives is what its sender has: narrowing and widening change nothing. -/
theorem got_at (q : Fin 4) (e : Dev nD) (l : Fin 128) (j : Fin 256) : got m q e (ix2 l j) = own m q e (ix2 l j) := by
  unfold got k0_pay26
  try dsimp only
  rw [extf_apply, cast_quarter]
  show ownB m q e (ix3 (0 : Fin 1) l j) = _
  unfold ownB k0_pay16
  try dsimp only
  rw [shapeCast_ab_1ab_apply, truncf_apply]
  rfl

/-- Every device's result: row by row, the three layers. -/
theorem outAt_at (c : Dev nD) (i : S4096x256.Idx) :
    outAt m c i = layer W V 2 (layer W V 1 (layer W V 0 (X (i 0)))) (i 1) := by
  have hi : (i 0 : Fin 4096) = at8 (devOf i) (inQ (quOf i) ⟨(i 0).val % 128, Nat.mod_lt _ (by decide)⟩) := Fin.ext (by
    show (i 0).val = 512 * ((i 0).val / 512) + (128 * ((i 0).val % 512 / 128) + (i 0).val % 128)
    omega)
  have ho : ixO i = ix2 ⟨(i 0).val % 128, Nat.mod_lt _ (by decide)⟩ (i 1) := funext fun a => by
    match a with
    | ⟨0, _⟩ => rfl
    | ⟨1, _⟩ => rfl
  have key := own_at B (quOf i) (devOf i) ⟨(i 0).val % 128, Nat.mod_lt _ (by decide)⟩ (i 1)
  rw [← hi] at key
  have hg := got_at B (quOf i) (devOf i) ⟨(i 0).val % 128, Nat.mod_lt _ (by decide)⟩ (i 1)
  show (if devOf i = c then own m (quOf i) c else got m (quOf i) (devOf i)) (ixO i) = _
  split
  · rename_i h
    rw [← h]; exact (congrArg _ ho).trans key
  · exact ((congrArg _ ho).trans hg).trans key

end Cert.Gather
-- ==== Proof.Algebra.lean ====
/-
Over the extended reals every device's result is the reference's.
-/
module

public import proofs.«01_k».proof.Proof.Frames
public import proofs.«01_k».proof.Proof.Value

@[expose] public section

noncomputable section

namespace Cert.Gather

open Cert.KernelIdeal Cert.KernelIdeal.Gen
open Idealize.ShloMosaic
open Idealize.ShloMosaic.TcCoe
open Idealize.ShloMosaic.ValueIdx
open Idealize.SL Idealize.SL.Sem

attribute [local instance] Cert.Kernel.Gen.facts Cert.KernelIdeal.Gen.facts Cert.ReferenceIdeal.Gen.facts

section Reads

variable {F : FTy → Type} [FloatOps F] (m : (ℓ : Loc nD τ sig) → Buf (Elt F) ℓ) (ρ : Dev nD → PrngReg)

/-! ## An array's one block is the array -/

theorem sX_eq (c : Dev nD) : sX m c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
theorem sI0_eq (c : Dev nD) : sI0 m c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _
theorem sO0_eq (c : Dev nD) : sO0 m c = m ((c : Thread nD τ).loc main_arg2) :=
  Memref.read_access_unit_zero (Elt F) main_arg2 (off := fun a => win0_2.index (0 : Fin 1) a * main_arg2.ty.shape.size a)
    (funext fun a => by fin_cases a <;> decide) (fun a => by fin_cases a <;> decide) _
theorem sI1_eq (c : Dev nD) : sI1 m c = m ((c : Thread nD τ).loc main_arg3) :=
  Memref.read_access_unit_zero (Elt F) main_arg3 (off := fun a => win0_3.index (0 : Fin 1) a * main_arg3.ty.shape.size a)
    (funext fun a => by fin_cases a <;> decide) (fun a => by fin_cases a <;> decide) _
theorem sO1_eq (c : Dev nD) : sO1 m c = m ((c : Thread nD τ).loc main_arg4) :=
  Memref.read_access_unit_zero (Elt F) main_arg4 (off := fun a => win0_4.index (0 : Fin 1) a * main_arg4.ty.shape.size a)
    (funext fun a => by fin_cases a <;> decide) (fun a => by fin_cases a <;> decide) _
theorem sI2_eq (c : Dev nD) : sI2 m c = m ((c : Thread nD τ).loc main_arg5) :=
  Memref.read_access_unit_zero (Elt F) main_arg5 (off := fun a => win0_5.index (0 : Fin 1) a * main_arg5.ty.shape.size a)
    (funext fun a => by fin_cases a <;> decide) (fun a => by fin_cases a <;> decide) _
theorem sO2_eq (c : Dev nD) : sO2 m c = m ((c : Thread nD τ).loc main_arg6) :=
  Memref.read_access_unit_zero (Elt F) main_arg6 (off := fun a => win0_6.index (0 : Fin 1) a * main_arg6.ty.shape.size a)
    (funext fun a => by fin_cases a <;> decide) (fun a => by fin_cases a <;> decide) _

/-- The result array's one block, as written. -/
theorem finalA_block (c : Dev nD) :
    (win0_7.blk (0 : Fin 1)).view.read (Elt F) (finalA m ρ c (7 : Fin 8)) = outAt m c := by
  unfold finalA
  rw [show cfg0.N = ((0 : Fin 1) : Fin cfg0.N).val + 1 from rfl, (dats m ρ 0 c).arrAt_succ (7 : Fin 8) (0 : Fin 1)]
  rw [show (cfg0.win (7 : Fin 8)).flush (0 : Fin 1) = true from flush0_7 _, if_pos rfl]
  exact View.read_write_univ _ _

/-- The result array ends at the computed result. -/
theorem finalA_out (c : Dev nD) : finalA m ρ c (7 : Fin 8) = outAt m c :=
  (Memref.read_access_unit_zero (Elt F) main_v1 (off := fun a => win0_7.index (0 : Fin 1) a * main_v1.ty.shape.size a)
    (funext fun a => by fin_cases a <;> decide) (fun a => by fin_cases a <;> decide) _).symm.trans (finalA_block m ρ c)

/-- Every run ends with the computed result on every device and the inputs unchanged. -/
theorem run_out : θ_run defs (onTc (τ := τ) (main (F := F))) ⟨m, fun _ => 0, ρ⟩
    (fun r => ∀ c : Dev nD, r.2.mem ((c : Thread nD τ).loc main_v1) = outAt m c ∧ Kept m c r) :=
  (θ_run defs _ _).mono (fun _ h c => ⟨(h.1 c (7 : Fin 8)).trans (finalA_out m ρ c), kept_of m ρ h.1 c⟩) (run_main (F := F) m ρ)

end Reads

/-! ## The blocks of whole matrices -/

/-- Rows cut among the devices. -/
theorem rows_at (v : S4096x256.Idx → EReal) (c : Dev nD) (l : Fin 512) (k : Fin 256) :
    Layout.block ⟨2, ![512, 256]⟩ ⟨2, ![4096, 256]⟩ 0 8 c v (by decide) (ix2 l k) = v (ix2 (at8 c l) k) := by
  rw [Layout.block_apply]
  refine congrArg v (funext fun a => Fin.ext ?_)
  match a with
  | ⟨0, _⟩ =>
    show c.val * 512 + l.val = 512 * c.val + l.val
    omega
  | ⟨1, _⟩ => rfl

/-- Columns cut among the devices. -/
theorem cols_at (v : (⟨2, ![256, 4096]⟩ : Shape).Idx → EReal) (c : Dev nD) (k : Fin 256) (l : Fin 512) :
    Layout.block ⟨2, ![256, 512]⟩ ⟨2, ![256, 4096]⟩ 1 8 c v (by decide) (ix2 k l) = v (ix2 k (at8 c l)) := by
  rw [Layout.block_apply]
  refine congrArg v (funext fun a => Fin.ext ?_)
  match a with
  | ⟨0, _⟩ => rfl
  | ⟨1, _⟩ =>
    show c.val * 512 + l.val = 512 * c.val + l.val
    omega

/-- The first weights of the three layers, by coordinates. -/
def mats (a b d : (⟨2, ![256, 4096]⟩ : Shape).Idx → EReal) : Fin 3 → Fin 256 → Fin 4096 → EReal
  | 0 => fun k f => a (ix2 k f)
  | 1 => fun k f => b (ix2 k f)
  | 2 => fun k f => d (ix2 k f)
/-- The second weights of the three layers, by coordinates. -/
def mats' (a b d : S4096x256.Idx → EReal) : Fin 3 → Fin 4096 → Fin 256 → EReal
  | 0 => fun f j => a (ix2 f j)
  | 1 => fun f j => b (ix2 f j)
  | 2 => fun f j => d (ix2 f j)

/-- The whole result: row by row, the three layers. -/
def whole (x : S4096x256.Idx → EReal) (i0 : (⟨2, ![256, 4096]⟩ : Shape).Idx → EReal) (o0 : S4096x256.Idx → EReal)
    (i1 : (⟨2, ![256, 4096]⟩ : Shape).Idx → EReal) (o1 : S4096x256.Idx → EReal)
    (i2 : (⟨2, ![256, 4096]⟩ : Shape).Idx → EReal) (o2 : S4096x256.Idx → EReal) : S4096x256.Idx → EReal := fun i =>
  layer (mats i0 i1 i2) (mats' o0 o1 o2) 2
    (layer (mats i0 i1 i2) (mats' o0 o1 o2) 1 (layer (mats i0 i1 i2) (mats' o0 o1 o2) 0 fun k => x (ix2 (i 0) k))) (i 1)

theorem reference_whole (x : FVec Ideal S4096x256 .f32) (i0 : FVec Ideal ⟨2, ![256, 4096]⟩ .f32) (o0 : FVec Ideal S4096x256 .f32)
    (i1 : FVec Ideal ⟨2, ![256, 4096]⟩ .f32) (o1 : FVec Ideal S4096x256 .f32)
    (i2 : FVec Ideal ⟨2, ![256, 4096]⟩ .f32) (o2 : FVec Ideal S4096x256 .f32)
    (z : FVec Ideal ⟨2, ![4096, 4096]⟩ .f32) (hz : ∀ i, z i = (0 : EReal)) :
    Host.dotGeneral (DotDims.plain 4096 4096 256) none (maximumf (Host.dotGeneral (DotDims.plain 4096 256 4096) none
      (Host.dotGeneral (DotDims.plain 4096 4096 256) none (maximumf (Host.dotGeneral (DotDims.plain 4096 256 4096) none
        (Host.dotGeneral (DotDims.plain 4096 4096 256) none (maximumf (Host.dotGeneral (DotDims.plain 4096 256 4096) none x i0) z) o0)
        i1) z) o1) i2) z) o2 = whole x i0 o0 i1 o1 i2 o2 := by
  funext i
  obtain ⟨r, j, rfl⟩ : ∃ (r : Fin 4096) (j : Fin 256), i = ix2 r j := ⟨i 0, i 1, eq_ix2 i⟩
  rw [host_layer (mats i0 i1 i2) (mats' o0 o1 o2) 2 _ _ _ z hz (fun _ _ => rfl) (fun _ _ => rfl)]
  unfold whole
  refine congrArg (fun y => layer (mats i0 i1 i2) (mats' o0 o1 o2) 2 y j) (funext fun k => ?_)
  rw [host_layer (mats i0 i1 i2) (mats' o0 o1 o2) 1 _ _ _ z hz (fun _ _ => rfl) (fun _ _ => rfl)]
  refine congrArg (fun y => layer (mats i0 i1 i2) (mats' o0 o1 o2) 1 y k) (funext fun k' => ?_)
  exact host_layer (mats i0 i1 i2) (mats' o0 o1 o2) 0 _ _ _ z hz (fun _ _ => rfl) (fun _ _ => rfl) r k'

theorem algebraic : Cert.algebraic_KernelIdeal_ReferenceIdeal := by
  intro m g m' g' _ hm
  refine ⟨whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3))
    (m' (((0 : Dev Cert.ReferenceIdeal.nD).tc : Thread _ Cert.ReferenceIdeal.τ).loc Cert.ReferenceIdeal.main_arg4))
    (m' (((0 : Dev Cert.ReferenceIdeal.nD).tc : Thread _ Cert.ReferenceIdeal.τ).loc Cert.ReferenceIdeal.main_arg5))
    (m' (((0 : Dev Cert.ReferenceIdeal.nD).tc : Thread _ Cert.ReferenceIdeal.τ).loc Cert.ReferenceIdeal.main_arg6)), ?_, ?_⟩
  · refine (θ_run defs _ _).mono (fun r h c => ⟨(h c).1.trans ?_, (h c).2⟩) (run_out (F := Ideal) m g)
    have B : Blocks m
        (fun r k => (m' (((0 : Dev Cert.ReferenceIdeal.nD).tc : Thread _ Cert.ReferenceIdeal.τ).loc Cert.ReferenceIdeal.main_arg0) : S4096x256.Idx → EReal) (ix2 r k))
        (mats (m' (((0 : Dev Cert.ReferenceIdeal.nD).tc : Thread _ Cert.ReferenceIdeal.τ).loc Cert.ReferenceIdeal.main_arg1))
          (m' (((0 : Dev Cert.ReferenceIdeal.nD).tc : Thread _ Cert.ReferenceIdeal.τ).loc Cert.ReferenceIdeal.main_arg3))
          (m' (((0 : Dev Cert.ReferenceIdeal.nD).tc : Thread _ Cert.ReferenceIdeal.τ).loc Cert.ReferenceIdeal.main_arg5)))
        (mats' (m' (((0 : Dev Cert.ReferenceIdeal.nD).tc : Thread _ Cert.ReferenceIdeal.τ).loc Cert.ReferenceIdeal.main_arg2))
          (m' (((0 : Dev Cert.ReferenceIdeal.nD).tc : Thread _ Cert.ReferenceIdeal.τ).loc Cert.ReferenceIdeal.main_arg4))
          (m' (((0 : Dev Cert.ReferenceIdeal.nD).tc : Thread _ Cert.ReferenceIdeal.τ).loc Cert.ReferenceIdeal.main_arg6))) := by
      refine ⟨fun c l k => ?_, fun L c k l => ?_, fun L c l j => ?_⟩
      · exact (congrFun ((sX_eq m c).trans (hm c).1) _).trans (rows_at _ c l k)
      · fin_cases L
        · exact (congrFun ((sI0_eq m c).trans (hm c).2.1) _).trans (cols_at _ c k l)
        · exact (congrFun ((sI1_eq m c).trans (hm c).2.2.2.1) _).trans (cols_at _ c k l)
        · exact (congrFun ((sI2_eq m c).trans (hm c).2.2.2.2.2.1) _).trans (cols_at _ c k l)
      · fin_cases L
        · exact (congrFun ((sO0_eq m c).trans (hm c).2.2.1) _).trans (rows_at _ c l j)
        · exact (congrFun ((sO1_eq m c).trans (hm c).2.2.2.2.1) _).trans (rows_at _ c l j)
        · exact (congrFun ((sO2_eq m c).trans (hm c).2.2.2.2.2.2) _).trans (rows_at _ c l j)
    funext i
    exact outAt_at B c i
  · refine (θ_run Cert.ReferenceIdeal.defs _ _).mono (fun r h => ⟨(h 0).1.trans ?_, (h 0).2⟩)
      (Cert.ReferenceIdeal.Value.run (F := Ideal) m' g')
    exact reference_whole _ _ _ _ _ _ _ _ fun _ => Ideal.ofBits_zero_f32

end Cert.Gather
-- ==== Proof.lean ====
/-
The claims about the kernel, put together.

`Proof/Model.lean` writes the kernel's body with loops and `Proof/BodyEq.lean` shows that it is the printed body.
`Proof/Common.lean` says what each buffer ends with; `Regions`, `Protocol`, `Steps`, `Shares`, `Loops`, `Phases`,
`Regroup` and `Body` run one device's body; `Deal` and `Run` hand out what the eight devices start from and run the
whole program. `Frames` reads off that run that the inputs are unchanged and the semaphores are at zero, and `Layers`,
`Value` and `Algebra` that over the extended reals every device's result is the reference's.
-/
module

public import proofs.«01_k».proof.Defs
public import proofs.«01_k».proof.Proof.Frames
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, Cert.Gather.frame_kernel,
    Cert.Gather.frame_ideal, Cert.Gather.frame_reference, trivial, Cert.Gather.algebraic⟩

end Cert.Proof

end
